-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quantiser (m : (ℓ : Loc Cert.Quantiser.nD Cert.Quantiser.τ Cert.Quantiser.sig) → Buf (Elt Bits) ℓ) : Prop :=
  True

def Pre_QuantiserIdeal (m : (ℓ : Loc Cert.QuantiserIdeal.nD Cert.QuantiserIdeal.τ Cert.QuantiserIdeal.sig) → Buf (Elt Ideal) ℓ) : Prop :=
  True

def Pre_ScalesIdeal (m : (ℓ : Loc Cert.ScalesIdeal.nD Cert.ScalesIdeal.τ Cert.ScalesIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Quantiser [hQuantiser : Cert.Quantiser.Facts] : Prop :=
  ∀ (m : (ℓ : Loc Cert.Quantiser.nD Cert.Quantiser.τ Cert.Quantiser.sig) → Buf (Elt Bits) ℓ) (g : Dev Cert.Quantiser.nD → PrngReg), Pre_Quantiser m →
    θ_run (Cert.Quantiser.defs (F := Bits)) (onTc (τ := Cert.Quantiser.τ) (Cert.Quantiser.main (F := Bits))) ⟨m, fun _ => 0, g⟩ (fun r => (∀ c : Dev Cert.Quantiser.nD,
      r.2.mem ((c.tc : Thread Cert.Quantiser.nD Cert.Quantiser.τ).loc Cert.Quantiser.main_arg0) = m ((c.tc : Thread Cert.Quantiser.nD Cert.Quantiser.τ).loc Cert.Quantiser.main_arg0)
      ∧ r.2.mem ((c.tc : Thread Cert.Quantiser.nD Cert.Quantiser.τ).loc Cert.Quantiser.main_arg1) = m ((c.tc : Thread Cert.Quantiser.nD Cert.Quantiser.τ).loc Cert.Quantiser.main_arg1))
      ∧ r.2.sem = fun _ => 0)

def quiescent_QuantiserIdeal [hQuantiserIdeal : Cert.QuantiserIdeal.Facts] : Prop :=
  ∀ (m : (ℓ : Loc Cert.QuantiserIdeal.nD Cert.QuantiserIdeal.τ Cert.QuantiserIdeal.sig) → Buf (Elt Ideal) ℓ) (g : Dev Cert.QuantiserIdeal.nD → PrngReg), Pre_QuantiserIdeal m →
    θ_run (Cert.QuantiserIdeal.defs (F := Ideal)) (onTc (τ := Cert.QuantiserIdeal.τ) (Cert.QuantiserIdeal.main (F := Ideal))) ⟨m, fun _ => 0, g⟩ (fun r => (∀ c : Dev Cert.QuantiserIdeal.nD,
      r.2.mem ((c.tc : Thread Cert.QuantiserIdeal.nD Cert.QuantiserIdeal.τ).loc Cert.QuantiserIdeal.main_arg0) = m ((c.tc : Thread Cert.QuantiserIdeal.nD Cert.QuantiserIdeal.τ).loc Cert.QuantiserIdeal.main_arg0)
      ∧ r.2.mem ((c.tc : Thread Cert.QuantiserIdeal.nD Cert.QuantiserIdeal.τ).loc Cert.QuantiserIdeal.main_arg1) = m ((c.tc : Thread Cert.QuantiserIdeal.nD Cert.QuantiserIdeal.τ).loc Cert.QuantiserIdeal.main_arg1))
      ∧ r.2.sem = fun _ => 0)

def quiescent_ScalesIdeal [hScalesIdeal : Cert.ScalesIdeal.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
      ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1))
      ∧ r.2.sem = fun _ => 0)

def preserves_Kernel_KernelIdeal : Prop :=
  IdealRules.bf16_pair.BufferStatement Cert.KernelIdeal.S2x5x64x2x128 Cert.KernelIdeal.S2x5x64x1x128
  ∧ IdealRules.bf16_pair.PackStatement Cert.KernelIdeal.S64x320
  ∧ IdealRules.bf16_pair.Statement Cert.KernelIdeal.S1x1x64x2x128 Cert.KernelIdeal.S1x1x64x1x128
  ∧ IdealRules.bf16_pair.Statement Cert.KernelIdeal.S1x1x7x2x128 Cert.KernelIdeal.S1x1x7x1x128
  ∧ IdealRules.bf16_pair.Statement Cert.KernelIdeal.S1x14x128 Cert.KernelIdeal.S1x7x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Quantiser_QuantiserIdeal : Prop :=
  True

def algebraic_QuantiserIdeal_ScalesIdeal [hQuantiserIdeal : Cert.QuantiserIdeal.Facts] [hScalesIdeal : Cert.ScalesIdeal.Facts] : Prop :=
  ∀ (m : (ℓ : Loc Cert.QuantiserIdeal.nD Cert.QuantiserIdeal.τ Cert.QuantiserIdeal.sig) → Buf (Elt Ideal) ℓ) (g : Dev Cert.QuantiserIdeal.nD → PrngReg)
    (m' : (ℓ : Loc Cert.ScalesIdeal.nD Cert.ScalesIdeal.τ Cert.ScalesIdeal.sig) → Buf (Elt Ideal) ℓ) (g' : Dev Cert.ScalesIdeal.nD → PrngReg), Pre_QuantiserIdeal m →
    (∀ c : Dev Cert.QuantiserIdeal.nD,
      m' ((c.tc : Thread Cert.ScalesIdeal.nD Cert.ScalesIdeal.τ).loc Cert.ScalesIdeal.main_arg0) = m ((c.tc : Thread Cert.QuantiserIdeal.nD Cert.QuantiserIdeal.τ).loc Cert.QuantiserIdeal.main_arg0)
      ∧ m' ((c.tc : Thread Cert.ScalesIdeal.nD Cert.ScalesIdeal.τ).loc Cert.ScalesIdeal.main_arg1) = m ((c.tc : Thread Cert.QuantiserIdeal.nD Cert.QuantiserIdeal.τ).loc Cert.QuantiserIdeal.main_arg1)) →
    ∃ (v0 : (c : Dev Cert.QuantiserIdeal.nD) → Buf (Elt Ideal) ((c.tc : Thread Cert.QuantiserIdeal.nD Cert.QuantiserIdeal.τ).loc Cert.QuantiserIdeal.main_v0_0)) (v1 : (c : Dev Cert.QuantiserIdeal.nD) → Buf (Elt Ideal) ((c.tc : Thread Cert.QuantiserIdeal.nD Cert.QuantiserIdeal.τ).loc Cert.QuantiserIdeal.main_v0_1)),
      θ_run (Cert.QuantiserIdeal.defs (F := Ideal)) (onTc (τ := Cert.QuantiserIdeal.τ) (Cert.QuantiserIdeal.main (F := Ideal))) ⟨m, fun _ => 0, g⟩ (fun r => ∀ c : Dev Cert.QuantiserIdeal.nD,
          r.2.mem ((c.tc : Thread Cert.QuantiserIdeal.nD Cert.QuantiserIdeal.τ).loc Cert.QuantiserIdeal.main_v0_0) = v0 c
          ∧ r.2.mem ((c.tc : Thread Cert.QuantiserIdeal.nD Cert.QuantiserIdeal.τ).loc Cert.QuantiserIdeal.main_v0_1) = v1 c
          ∧ r.2.mem ((c.tc : Thread Cert.QuantiserIdeal.nD Cert.QuantiserIdeal.τ).loc Cert.QuantiserIdeal.main_arg0) = m ((c.tc : Thread Cert.QuantiserIdeal.nD Cert.QuantiserIdeal.τ).loc Cert.QuantiserIdeal.main_arg0)
          ∧ r.2.mem ((c.tc : Thread Cert.QuantiserIdeal.nD Cert.QuantiserIdeal.τ).loc Cert.QuantiserIdeal.main_arg1) = m ((c.tc : Thread Cert.QuantiserIdeal.nD Cert.QuantiserIdeal.τ).loc Cert.QuantiserIdeal.main_arg1))
      ∧ θ_run (Cert.ScalesIdeal.defs (F := Ideal)) (onTc (τ := Cert.ScalesIdeal.τ) (Cert.ScalesIdeal.main (F := Ideal))) ⟨m', fun _ => 0, g'⟩ (fun r => ∀ c : Dev Cert.ScalesIdeal.nD,
          r.2.mem ((c.tc : Thread Cert.ScalesIdeal.nD Cert.ScalesIdeal.τ).loc Cert.ScalesIdeal.main_v0_0) = v0 c
          ∧ r.2.mem ((c.tc : Thread Cert.ScalesIdeal.nD Cert.ScalesIdeal.τ).loc Cert.ScalesIdeal.main_v0_1) = v1 c
          ∧ r.2.mem ((c.tc : Thread Cert.ScalesIdeal.nD Cert.ScalesIdeal.τ).loc Cert.ScalesIdeal.main_arg0) = m' ((c.tc : Thread Cert.ScalesIdeal.nD Cert.ScalesIdeal.τ).loc Cert.ScalesIdeal.main_arg0)
          ∧ r.2.mem ((c.tc : Thread Cert.ScalesIdeal.nD Cert.ScalesIdeal.τ).loc Cert.ScalesIdeal.main_arg1) = m' ((c.tc : Thread Cert.ScalesIdeal.nD Cert.ScalesIdeal.τ).loc Cert.ScalesIdeal.main_arg1))

def Claim : Prop :=
  ∃ (hKernel : Cert.Kernel.Facts) (hKernelIdeal : Cert.KernelIdeal.Facts) (hReferenceIdeal : Cert.ReferenceIdeal.Facts) (hQuantiser : Cert.Quantiser.Facts) (hQuantiserIdeal : Cert.QuantiserIdeal.Facts) (hScalesIdeal : Cert.ScalesIdeal.Facts),
    quiescent_Kernel (hKernel := hKernel)
    ∧ quiescent_KernelIdeal (hKernelIdeal := hKernelIdeal)
    ∧ quiescent_ReferenceIdeal (hReferenceIdeal := hReferenceIdeal)
    ∧ quiescent_Quantiser (hQuantiser := hQuantiser)
    ∧ quiescent_QuantiserIdeal (hQuantiserIdeal := hQuantiserIdeal)
    ∧ quiescent_ScalesIdeal (hScalesIdeal := hScalesIdeal)
    ∧ preserves_Kernel_KernelIdeal
    ∧ algebraic_KernelIdeal_ReferenceIdeal (hKernelIdeal := hKernelIdeal) (hReferenceIdeal := hReferenceIdeal)
    ∧ preserves_Quantiser_QuantiserIdeal
    ∧ algebraic_QuantiserIdeal_ScalesIdeal (hQuantiserIdeal := hQuantiserIdeal) (hScalesIdeal := hScalesIdeal)
-- ==== Kernel.lean ====
abbrev S16x64x1280 : Shape := ⟨3, ![16, 64, 1280]⟩
abbrev S16x64x128 : Shape := ⟨3, ![16, 64, 128]⟩
abbrev S16x8x160x320 : Shape := ⟨4, ![16, 8, 160, 320]⟩
abbrev S16x8x320 : Shape := ⟨3, ![16, 8, 320]⟩
abbrev S1x18x14x2560 : Shape := ⟨4, ![1, 18, 14, 2560]⟩
abbrev S2x5x64x128 : Shape := ⟨4, ![2, 5, 64, 128]⟩
abbrev S18x14x2560 : Shape := ⟨3, ![18, 14, 2560]⟩
abbrev S4 : Shape := ⟨1, ![4]⟩
abbrev S_ : Shape := ⟨0, ![]⟩
abbrev S1 : Shape := ⟨1, ![1]⟩
abbrev S16x2x160x320 : Shape := ⟨4, ![16, 2, 160, 320]⟩
abbrev S1x1x160x320 : Shape := ⟨4, ![1, 1, 160, 320]⟩
abbrev S160x320 : Shape := ⟨2, ![160, 320]⟩
abbrev S96x320 : Shape := ⟨2, ![96, 320]⟩
abbrev S256x320 : Shape := ⟨2, ![256, 320]⟩
abbrev S1x64x256 : Shape := ⟨3, ![1, 64, 256]⟩
abbrev S64x256 : Shape := ⟨2, ![64, 256]⟩
abbrev S64x320 : Shape := ⟨2, ![64, 320]⟩
abbrev S1x64x128 : Shape := ⟨3, ![1, 64, 128]⟩
abbrev S64x128 : Shape := ⟨2, ![64, 128]⟩
abbrev S64x1 : Shape := ⟨2, ![64, 1]⟩
abbrev S1x1x320 : Shape := ⟨3, ![1, 1, 320]⟩
abbrev S1x320 : Shape := ⟨2, ![1, 320]⟩
abbrev S32x320 : Shape := ⟨2, ![32, 320]⟩
abbrev S64x640 : Shape := ⟨2, ![64, 640]⟩
abbrev S1x1x64x128 : Shape := ⟨4, ![1, 1, 64, 128]⟩
abbrev S1x1x7x128 : Shape := ⟨4, ![1, 1, 7, 128]⟩
abbrev S7x128 : Shape := ⟨2, ![7, 128]⟩
abbrev S18x7x2560 : Shape := ⟨3, ![18, 7, 2560]⟩
abbrev S1x7x128 : Shape := ⟨3, ![1, 7, 128]⟩
abbrev S1x14x128 : Shape := ⟨3, ![1, 14, 128]⟩
abbrev S1x18x14x640 : Shape := ⟨4, ![1, 18, 14, 640]⟩
abbrev S18x14x640 : Shape := ⟨3, ![18, 14, 640]⟩

abbrev nBuf : Space → Nat
  | .hbm => 5
  | .vmem => 6
  | .smem => 0
  | _ => 0

abbrev bufTy : (tb : Table) → Fin (tcTables nBuf tb) → BufTy
  | .hbm, ⟨0, _⟩ => ⟨S16x64x1280, .fp8e4m3⟩
  | .hbm, ⟨1, _⟩ => ⟨S16x64x128, .f32⟩
  | .hbm, ⟨2, _⟩ => ⟨S16x8x160x320, .fp8e4m3⟩
  | .hbm, ⟨3, _⟩ => ⟨S16x8x320, .f32⟩
  | .hbm, ⟨4, _⟩ => ⟨S1x18x14x2560, .bf16⟩
  | .local _ .vmem, ⟨0, _⟩ => ⟨S16x64x1280, .fp8e4m3⟩
  | .local _ .vmem, ⟨1, _⟩ => ⟨S16x64x128, .f32⟩
  | .local _ .vmem, ⟨2, _⟩ => ⟨S16x8x160x320, .fp8e4m3⟩
  | .local _ .vmem, ⟨3, _⟩ => ⟨S16x8x320, .f32⟩
  | .local _ .vmem, ⟨4, _⟩ => ⟨S2x5x64x128, .i32⟩
  | .local _ .vmem, ⟨5, _⟩ => ⟨S18x14x2560, .bf16⟩
  | _, _ => ⟨S16x64x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

abbrev stage0_0 : Fin 1 → Memref sig .tc .vmem S16x64x1280 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
abbrev S2x5x64x2x128 : Shape := ⟨5, ![2, 5, 64, 2, 128]⟩
abbrev S2x5x64x1x128 : Shape := ⟨5, ![2, 5, 64, 1, 128]⟩
abbrev S1x1x64x2x128 : Shape := ⟨5, ![1, 1, 64, 2, 128]⟩
abbrev S1x1x64x1x128 : Shape := ⟨5, ![1, 1, 64, 1, 128]⟩
abbrev S1x1x7x2x128 : Shape := ⟨5, ![1, 1, 7, 2, 128]⟩
abbrev S1x1x7x1x128 : Shape := ⟨5, ![1, 1, 7, 1, 128]⟩
  | .local _ .vmem, ⟨4, _⟩ => ⟨S2x5x64x2x128, .bf16⟩
variable {F : FTy → Type} [FloatOps F]
-- ==== ReferenceIdeal.lean ====
abbrev S16x64x1280 : Shape := ⟨3, ![16, 64, 1280]⟩
abbrev S16x64x128 : Shape := ⟨3, ![16, 64, 128]⟩
abbrev S16x8x160x320 : Shape := ⟨4, ![16, 8, 160, 320]⟩
abbrev S16x8x320 : Shape := ⟨3, ![16, 8, 320]⟩
abbrev S1x18x14x2560 : Shape := ⟨4, ![1, 18, 14, 2560]⟩
abbrev S16x63x1280 : Shape := ⟨3, ![16, 63, 1280]⟩
abbrev S16x63x1 : Shape := ⟨3, ![16, 63, 1]⟩
abbrev S16x63 : Shape := ⟨2, ![16, 63]⟩
abbrev S16x63x8x160 : Shape := ⟨4, ![16, 63, 8, 160]⟩
abbrev S16x8x63x320 : Shape := ⟨4, ![16, 8, 63, 320]⟩
abbrev S16x1x63x1 : Shape := ⟨4, ![16, 1, 63, 1]⟩
abbrev S16x8x1x320 : Shape := ⟨4, ![16, 8, 1, 320]⟩
abbrev S4x4x8x63x320 : Shape := ⟨5, ![4, 4, 8, 63, 320]⟩
abbrev S4x1x8x63x320 : Shape := ⟨5, ![4, 1, 8, 63, 320]⟩
abbrev S4x8x63x320 : Shape := ⟨4, ![4, 8, 63, 320]⟩
abbrev S1x8x63x320 : Shape := ⟨4, ![1, 8, 63, 320]⟩
abbrev S8x63x320 : Shape := ⟨3, ![8, 63, 320]⟩
abbrev S2x8x63x320 : Shape := ⟨4, ![2, 8, 63, 320]⟩
abbrev S1x2x8x63x320 : Shape := ⟨5, ![1, 2, 8, 63, 320]⟩
abbrev S2x2x8x63x320 : Shape := ⟨5, ![2, 2, 8, 63, 320]⟩
abbrev S2x2x8x1x9x7x320 : Shape := ⟨7, ![2, 2, 8, 1, 9, 7, 320]⟩
abbrev S1x9x2x7x2x8x320 : Shape := ⟨7, ![1, 9, 2, 7, 2, 8, 320]⟩

abbrev nBuf : Space → Nat
  | .hbm => 5
  | .vmem => 5
  | .smem => 0
  | _ => 0

abbrev bufTy : (tb : Table) → Fin (tcTables nBuf tb) → BufTy
  | .hbm, ⟨0, _⟩ => ⟨S16x64x1280, .fp8e4m3⟩
  | .hbm, ⟨1, _⟩ => ⟨S16x64x128, .f32⟩
  | .hbm, ⟨2, _⟩ => ⟨S16x8x160x320, .fp8e4m3⟩
  | .hbm, ⟨3, _⟩ => ⟨S16x8x320, .f32⟩
  | .hbm, ⟨4, _⟩ => ⟨S1x18x14x2560, .bf16⟩
  | .local _ .vmem, ⟨0, _⟩ => ⟨S16x64x1280, .fp8e4m3⟩
  | .local _ .vmem, ⟨1, _⟩ => ⟨S16x64x128, .f32⟩
  | .local _ .vmem, ⟨2, _⟩ => ⟨S16x8x160x320, .fp8e4m3⟩
  | .local _ .vmem, ⟨3, _⟩ => ⟨S16x8x320, .f32⟩
  | .local _ .vmem, ⟨4, _⟩ => ⟨S1x18x14x2560, .bf16⟩
  | _, _ => ⟨S16x64x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x64x1280 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8x160x320 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x18x14x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Quantiser.lean ====
abbrev S16x64x1280 : Shape := ⟨3, ![16, 64, 1280]⟩
abbrev S16x64x1 : Shape := ⟨3, ![16, 64, 1]⟩
abbrev S16x63x1280 : Shape := ⟨3, ![16, 63, 1280]⟩
abbrev S16x63 : Shape := ⟨2, ![16, 63]⟩
abbrev S16x64x128 : Shape := ⟨3, ![16, 64, 128]⟩
abbrev S_ : Shape := ⟨0, ![]⟩
abbrev S1x64x1 : Shape := ⟨3, ![1, 64, 1]⟩
abbrev S64x1 : Shape := ⟨2, ![64, 1]⟩
abbrev S64x128 : Shape := ⟨2, ![64, 128]⟩
abbrev S1x64x128 : Shape := ⟨3, ![1, 64, 128]⟩
abbrev S63x128 : Shape := ⟨2, ![63, 128]⟩
abbrev S1x63x128 : Shape := ⟨3, ![1, 63, 128]⟩
abbrev S128x128 : Shape := ⟨2, ![128, 128]⟩

abbrev nBuf : Space → Nat
  | .hbm => 4
  | .vmem => 6
  | .smem => 0
  | _ => 0

abbrev bufTy : (tb : Table) → Fin (tcTables nBuf tb) → BufTy
  | .hbm, ⟨0, _⟩ => ⟨S16x64x1280, .f32⟩
  | .hbm, ⟨1, _⟩ => ⟨S16x64x1, .f32⟩
  | .hbm, ⟨2, _⟩ => ⟨S16x63x1280, .fp8e4m3⟩
  | .hbm, ⟨3, _⟩ => ⟨S16x63, .f32⟩
  | .local _ .vmem, ⟨0, _⟩ => ⟨S16x64x1280, .f32⟩
  | .local _ .vmem, ⟨1, _⟩ => ⟨S16x64x1, .f32⟩
  | .local _ .vmem, ⟨2, _⟩ => ⟨S16x64x1280, .fp8e4m3⟩
  | .local _ .vmem, ⟨3, _⟩ => ⟨S16x63x1280, .fp8e4m3⟩
  | .local _ .vmem, ⟨4, _⟩ => ⟨S16x64x128, .f32⟩
  | .local _ .vmem, ⟨5, _⟩ => ⟨S16x63, .f32⟩
  | _, _ => ⟨S16x64x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x64x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ScalesIdeal.lean ====
abbrev S16x64x1280 : Shape := ⟨3, ![16, 64, 1280]⟩
abbrev S16x64x1 : Shape := ⟨3, ![16, 64, 1]⟩
abbrev S16x63x1280 : Shape := ⟨3, ![16, 63, 1280]⟩
abbrev S16x63 : Shape := ⟨2, ![16, 63]⟩
abbrev S16x63x1 : Shape := ⟨3, ![16, 63, 1]⟩
abbrev S16x63x254 : Shape := ⟨3, ![16, 63, 254]⟩

abbrev nBuf : Space → Nat
  | .hbm => 4
  | .vmem => 4
  | .smem => 0
  | _ => 0

abbrev bufTy : (tb : Table) → Fin (tcTables nBuf tb) → BufTy
  | .hbm, ⟨0, _⟩ => ⟨S16x64x1280, .f32⟩
  | .hbm, ⟨1, _⟩ => ⟨S16x64x1, .f32⟩
  | .hbm, ⟨2, _⟩ => ⟨S16x63x1280, .fp8e4m3⟩
  | .hbm, ⟨3, _⟩ => ⟨S16x63, .f32⟩
  | .local _ .vmem, ⟨0, _⟩ => ⟨S16x64x1280, .f32⟩
  | .local _ .vmem, ⟨1, _⟩ => ⟨S16x64x1, .f32⟩
  | .local _ .vmem, ⟨2, _⟩ => ⟨S16x63x1280, .fp8e4m3⟩
  | .local _ .vmem, ⟨3, _⟩ => ⟨S16x63, .f32⟩
  | _, _ => ⟨S16x64x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x64x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x63x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x63 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Results.lean ====
/-
  The run of a kernel that copies its operands in and its results out itself, with what the results hold at the
  end named. It is the library's one-region launch at an invariant that holds the buffers `H` the kernel reads at
  their launch contents and the buffers `R` it writes at contents the certificate names.
-/
import Idealize.ShloMosaic.Lib.Pipeline.Frame
import Idealize.ShloMosaic.Lib.Pipeline.KitQuiescent
import Idealize.ShloMosaic.Lib.Tactic

noncomputable section

namespace Cert.Results

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]
variable {K : Type} [Fintype K]

/-- The proof's algebra: the pipeline library's beside the transfers' counters. -/
local notation "𝕄" => MT nD τ sig Unit Val ℕ (UD sig nD τ) ℕ

/-- Contents for every unscoped buffer of core `c`. -/
abbrev Contents {nD : Nat} (τ : Topo) (sig : RefSig) (Val : EltTy → Type) (c : Dev nD) : Type :=
  (b : Ref sig .tc) → Buf Val ((c.tc : Thread nD τ).loc b)

/-- The invariant with every addressed buffer named: scratch at something, the generator register at something, the
    kernel's own semaphores at zero, the buffers read at `V`, the buffers written at contents of which `Q` holds. -/
def Inv (osem : K → SemLoc sig) {gr : Nat} {W : Nat} (win : Fin W → WinSpec sig gr) (H R : Finset (Ref sig .tc))
    (c : Dev nD) (V : Contents τ sig Val c) (Q : Contents τ sig Val c → Prop) : sProp 𝕄 :=
  iprop(scopedRest (Ix := Unit) (Name := ℕ) (U := UD sig nD τ) (Lvl := ℕ) (Val := Val) win c ∗ (∃ r, prngReg c r)
    ∗ ownSems0 (Ix := Unit) (Name := ℕ) (U := UD sig nD τ) (Lvl := ℕ) (Val := Val) (τ := τ) osem c
    ∗ (bigSep H fun b => ((c.tc : Thread nD τ).loc b) ↦{fullShare} V b)
    ∗ ∃ U, ⌜Q U⌝ ∗ bigSep R fun b => ((c.tc : Thread nD τ).loc b) ↦{fullShare} U b)

variable (cfgs : P → Cfg sig Λ₀)
  (dats : (p : P) → (c : Dev nD) → Dat τ Val Unit ℕ (UD sig nD τ) ℕ (cfgs p) c) (p : P)
  (kit : LaunchFacts (nD := nD) (τ := τ) cfgs p)
  (osem : K → SemLoc sig) (defs₀ : Defs nD τ sig Val Λ₀) (𝒱₀ : Variants)

include kit in
/-- From any memory with every counter zero the program terminates, the buffers `H` hold at the end what they held at
    the region's entry, the buffers `R` hold contents of which `Q` holds, every window's array holds what the
    library computes for it, and every counter is zero again. -/
theorem θ_run_results (ho : OwnSemFacts (cfgs p).spec osem) (H R : Finset (Ref sig .tc))
    (hH : H ⊆ restRefs sig (cfgs p).spec) (hR : R ⊆ restRefs sig (cfgs p).spec \ H)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hshare : ∀ c w, (dats p c).share w = fullShare) (howed : ∀ c t, (dats p c).owed t = 0)
    (V : (c : Dev nD) → Contents τ sig Val c) (Q : (c : Dev nD) → Contents τ sig Val c → Prop)
    (hmain : HMain (Ix := Unit) (Name := ℕ) (U := UD sig nD τ) (Lvl := ℕ) cfgs p defs₀ 𝒱₀ m main V)
    (hA : ∀ c w, (dats p c).A w = V c (arrRef (cfgs p).spec w))
    (hin : ∀ c, Inv osem (cfgs p).spec H R c (V c) (fun U => U = V c) ⊢ (dats p c).Φ 0)
    (hout : ∀ c, (dats p c).Φ (Fin.last (cfgs p).N) ⊢ Inv osem (cfgs p).spec H R c (V c) (Q c)) :
    θ_run (Pipeline.defs (fun q => Cfg.toPCfg (Val := Val) (cfgs q)) defs₀) (onTc main) ⟨m, fun _ => 0, g⟩
      (fun r => (∀ c : Dev nD, (∀ b ∈ H, r.2.mem ((c.tc : Thread nD τ).loc b) = V c b)
        ∧ (∃ U, Q c U ∧ ∀ b ∈ R, r.2.mem ((c.tc : Thread nD τ).loc b) = U b)
        ∧ ∀ w, r.2.mem (((cfgs p).spec w).arr.view.loc (c.tc : Thread nD τ)) = (dats p c).arrAt w (cfgs p).N) ∧ r.2.sem = fun _ => 0) := by
  classical
  exact θ_run_region_kit_quiescent cfgs dats () p kit ho embL defs₀ 𝒱₀ m g main hbody hshare howed
    (G := fun _ => iprop(emp)) (u₀ := (initOf (cells cfgs kit.cellOf_inj) (launchToks cfgs kit.cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V) (hmain := hmain) (hA := hA)
    (X := fun c => iprop((∃ r, prngReg c r) ∗ ownSems0 (Ix := Unit) (Name := ℕ) (U := UD sig nD τ) (Lvl := ℕ) (Val := Val) (τ := τ) osem c
      ∗ (bigSep H fun b => ((c.tc : Thread nD τ).loc b) ↦{fullShare} V c b)
      ∗ bigSep R fun b => ((c.tc : Thread nD τ).loc b) ↦{fullShare} V c b))
    (Y := fun c => iprop((∃ r, prngReg c r) ∗ (bigSep H fun b => ((c.tc : Thread nD τ).loc b) ↦{fullShare} V c b)
      ∗ ∃ U, ⌜Q c U⌝ ∗ bigSep R fun b => ((c.tc : Thread nD τ).loc b) ↦{fullShare} U b))
    (Z := fun c => bigSep ((restRefs sig (cfgs p).spec \ H) \ R) fun b => ((c.tc : Thread nD τ).loc b) ↦{fullShare} V c b)
    (hX := fun c => by
      iintro ⟨HU, Ho, -, Hp, -⟩; imodintro
      ihave HU' := (Entails.of_eq (unscopedRest_sdiff (cfgs p).spec H hH c (V c))) $$ HU
      icases HU' with ⟨HH, HRZ⟩
      ihave HRZ' := (Entails.of_eq (show (bigSep (restRefs sig (cfgs p).spec \ H) fun b => ((c.tc : Thread nD τ).loc b) ↦{fullShare} V c b)
          = iprop((bigSep R fun b => ((c.tc : Thread nD τ).loc b) ↦{fullShare} V c b)
              ∗ bigSep ((restRefs sig (cfgs p).spec \ H) \ R) fun b => ((c.tc : Thread nD τ).loc b) ↦{fullShare} V c b)
          from BI.bigSep_sdiff_split hR)) $$ HRZ
      icases HRZ' with ⟨HR, HZ⟩
      isplitr [HZ]
      · isplitl [Hp]; · iexists _; iexact Hp
        isplitl [Ho]; · iexact Ho
        isplitl [HH]; · iexact HH
        iexact HR
      · iexact HZ)
    (hin := fun c => (show _ ⊢ Inv osem (cfgs p).spec H R c (V c) (fun U => U = V c) by
        unfold Inv; iintro ⟨⟨Hp, Ho, HH, HR⟩, Hr⟩
        isplitl [Hr]; · iexact Hr
        isplitl [Hp]; · iexact Hp
        isplitl [Ho]; · iexact Ho
        isplitl [HH]; · iexact HH
        iexists (V c); isplitr
        · ipureintro; rfl
        iexact HR).trans (hin c))
    (hout := fun c => (hout c).trans (by
        unfold Inv
        iintro ⟨Hr, Hp, Ho, HH, HR⟩
        isplitl [Hp HH HR]
        · isplitl [Hp]; · iexact Hp
          isplitl [HH]; · iexact HH
          iexact HR
        isplitl [Ho]; · iexact Ho
        iexact Hr))
    (QY := fun c s => (∀ b ∈ H, s.mem ((c.tc : Thread nD τ).loc b) = V c b) ∧ ∃ U, Q c U ∧ ∀ b ∈ R, s.mem ((c.tc : Thread nD τ).loc b) = U b)
    (hY := fun c s' => by
      iintro ⟨⟨-, HH, ⟨%U, %hQ, HR⟩⟩, -, HSI⟩
      ihave HH' := (pointsTo_read_all H (fun b => (c.tc : Thread nD τ).loc b) (V c) s') $$ [HH HSI]
      · isplitl [HH] <;> iassumption
      icases HH' with ⟨%hH', HSI⟩
      ihave HR' := (pointsTo_read_all R (fun b => (c.tc : Thread nD τ).loc b) U s') $$ [HR HSI]
      · isplitl [HR] <;> iassumption
      icases HR' with ⟨%hR', HSI⟩
      imodintro
      isplitr
      · ipureintro; exact ⟨hH', U, hQ, hR'⟩
      · iexact HSI)
    (hQ := fun s h hz => ⟨fun c => ⟨(h c).2.1, (h c).2.2, (h c).1⟩, hz⟩)

end Cert.Results

end
-- ==== Proof.Rejoin.lean ====
/-
  Putting a buffer back together: parts of it held at contents of their own are the whole buffer held at some contents.
-/
import Idealize.ShloMosaic.Lib.Pipeline.Frame
import Idealize.ShloMosaic.Lib.Tactic

noncomputable section

namespace Cert.Rejoin

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

/-- The resources of a one-core machine. -/
local notation "𝕄" => MT nD τ sig Unit Val ℕ U ℕ

/-- Two parts of one buffer, each held in full, are their union held at some contents: they are disjoint, since nothing
    is held in full twice. -/
theorem join_any {ℓ : Loc nD τ sig} (A B : Finset (Idx ℓ)) (f g : Buf Val ℓ) :
    iprop((ℓ ↦[A]{fullShare} f) ∗ ℓ ↦[B]{fullShare} g) ⊢ (iprop(∃ h : Buf Val ℓ, ℓ ↦[A ∪ B]{fullShare} h) : sProp 𝕄) := by
  classical
  by_cases h : Disjoint A B
  · refine (pointsTo_join h).trans ?_
    iintro H; iexists _; iexact H
  · obtain ⟨i, hi, hj⟩ := Finset.not_disjoint_iff.mp h
    refine (pointsTo_full_full_false hi hj).trans ?_
    iintro %h; exact h.elim

/-- Three windows of a buffer and what is left of it without them make up the buffer. -/
theorem join_windows {ℓ : Loc nD τ sig} (W₀ W₁ W₂ : Finset (Idx ℓ)) (f g₀ g₁ g₂ : Buf Val ℓ) :
    iprop((ℓ ↦[((Finset.univ \ W₀) \ W₁) \ W₂]{fullShare} f) ∗ (ℓ ↦[W₀]{fullShare} g₀) ∗ (ℓ ↦[W₁]{fullShare} g₁) ∗ ℓ ↦[W₂]{fullShare} g₂)
      ⊢ (iprop(∃ h : Buf Val ℓ, ℓ ↦{fullShare} h) : sProp 𝕄) := by
  have hu : ∀ A : Finset (Idx ℓ), A = ((Finset.univ \ W₀) \ W₁) \ W₂ → A ∪ W₀ ∪ W₁ ∪ W₂ = Finset.univ := by
    rintro A rfl
    ext i
    simp only [Finset.mem_union, Finset.mem_sdiff, Finset.mem_univ, true_and, iff_true]
    tauto
  iintro ⟨HA, H0, H1, H2⟩
  ihave H := (join_any _ W₀ f g₀) $$ [HA H0]
  · isplitl [HA] <;> iassumption
  icases H with ⟨%h0, H⟩
  ihave H := (join_any _ W₁ h0 g₁) $$ [H H1]
  · isplitl [H] <;> iassumption
  icases H with ⟨%h1, H⟩
  ihave H := (join_any _ W₂ h1 g₂) $$ [H H2]
  · isplitl [H] <;> iassumption
  icases H with ⟨%h2, H⟩
  rw [hu _ rfl]
  iexists h2; iexact H

end Cert.Rejoin

end
-- ==== Proof.RunBits.lean ====
import proofs.«01_k».proof.Proof.Gen.Kernel.Launch
import proofs.«01_k».proof.Proof.Gen.Kernel.Skeleton
import proofs.«01_k».proof.Proof.Gen.Kernel.Points
import Idealize.ShloMosaic.Lib.Pipeline.FrameBody
import proofs.«01_k».proof.Proof.Rejoin
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The proof's user algebra: the pipeline library's beside the transfers' counters. -/
local notation "𝕄" => MT nD τ sig Unit (Elt F) ℕ (Pipeline.UD sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The operands left in HBM: the weight codes, the weight scales, the result. -/
abbrev hbW : Memref sig .tc .hbm S16x8x160x320 .fp8e4m3 := Memref.whole main_arg2
abbrev hbS : Memref sig .tc .hbm S16x8x320 .f32 := Memref.whole main_arg3
abbrev hbY : Memref sig .tc .hbm S1x18x14x2560 .bf16 := Memref.whole main_v0
/-- The scratch buffers: the copies of the weight codes and scales, the parity planes, the result. -/
abbrev scW : Memref sig .tc .vmem S16x8x160x320 .fp8e4m3 := Memref.whole cc0_scratch0
abbrev scS : Memref sig .tc .vmem S16x8x320 .f32 := Memref.whole cc0_scratch1
abbrev scP : Memref sig .tc .vmem S2x5x64x128 .i32 := Memref.whole cc0_scratch2
abbrev scY : Memref sig .tc .vmem S18x14x2560 .bf16 := Memref.whole cc0_scratch3
/-- The staging buffers of the two staged operands. -/
abbrev stC : Memref sig .tc .vmem S16x64x1280 .fp8e4m3 := Memref.whole cc0_stg0_0
abbrev stX : Memref sig .tc .vmem S16x64x128 .f32 := Memref.whole cc0_stg1_0

/-- The nine semaphore cells of the body's own transfers, each at zero. -/
abbrev cells0 (c : Dev nD) : sProp 𝕄 :=
  iprop(semVal ((c : Thread nD τ), SemLoc.dma 2) 0 ∗ semVal ((c : Thread nD τ), SemLoc.dma 3) 0
    ∗ semVal ((c : Thread nD τ), SemLoc.dma 4) 0 ∗ semVal ((c : Thread nD τ), SemLoc.dma 5) 0
    ∗ semVal ((c : Thread nD τ), SemLoc.dma 6) 0 ∗ semVal ((c : Thread nD τ), SemLoc.dma 7) 0
    ∗ semVal ((c : Thread nD τ), SemLoc.dma 8) 0 ∗ semVal ((c : Thread nD τ), SemLoc.dma 9) 0
    ∗ semVal ((c : Thread nD τ), SemLoc.dma 10) 0)

set_option maxHeartbeats 0 in
set_option sl_exec.dmaWindow true in
noncomputable def kernelRun (c : Dev nD)
    (fC : Bf (F := F) c stC) (fX : Bf (F := F) c stX) (fW : Bf (F := F) c hbW) (fS : Bf (F := F) c hbS)
    (gW : Bf (F := F) c scW) (gS : Bf (F := F) c scS) (gP : Bf (F := F) c scP) (gY : Bf (F := F) c scY)
    (fY : Bf (F := F) c hbY) :
    { R : Bf (F := F) c hbY //
      ∀ (W : Waits sig Unit) (K : PUnit → sProp 𝕄),
        iprop(pt c stC fC ∗ pt c stX fX ∗ pt c hbW fW ∗ pt c hbS fS ∗ pt c hbY fY
            ∗ pt c scW gW ∗ pt c scS gS ∗ pt c scP gP ∗ pt c scY gY
            ∗ cells0 c ∗ owes (c : Thread nD τ) 0 W
            ∗ (iprop(pt c stC fC ∗ pt c stX fX ∗ pt c hbW fW ∗ pt c hbS fS ∗ pt c hbY R
                ∗ (∃ f, pt c scW f) ∗ (∃ f, pt c scS f) ∗ (∃ f, pt c scP f) ∗ (∃ f, pt c scY f)
                ∗ cells0 c ∗ (∃ W', owes (c : Thread nD τ) 0 W')) -∗ K ⟨⟩))
          ⊢ wp frame (wpE (defs₀ (F := F)) Variants.none c none) Set.univ
              (cc0_winograd_fp8 stC (Memref.isWhole_whole _) stX (Memref.isWhole_whole _) hbW (Memref.isWhole_whole _)
                hbS (Memref.isWhole_whole _) hbY (Memref.isWhole_whole _) scW (Memref.isWhole_whole _) scS (Memref.isWhole_whole _)
                scP (Memref.isWhole_whole _) scY (Memref.isWhole_whole _) cc0_scratch4 cc0_scratch5 cc0_scratch6) K } := by
  refine ⟨?_, fun W K => ?run⟩
  case run =>
    iintro ⟨HC, HX, HbW, HbS, HbY, HW, HS, HP, HY, ⟨Hq2, Hq3, Hq4, Hq5, Hq6, Hq7, Hq8, Hq9, Hq10⟩, HO, Hk⟩
    sl_exec_parts!
    sl_step
    iapply Hk
    isplitl [HC]; · iexact HC
    isplitl [HX]; · iexact HX
    isplitl [HbW]; · iexact HbW
    isplitl [HbS]; · iexact HbS
    isplitl [HbY]; · iexact HbY
    isplitl [HW]; · iexists _; iexact HW
    isplitl [HS]; · iexists _; iexact HS
    isplitl [HP]; · iexists _; iexact HP
    isplitl [HY HY_2 HY_3 HY_4]
    · iapply (Cert.Rejoin.join_windows _ _ _ _ _ _ _)
      isplitl [HY]; · iexact HY
      isplitl [HY_2]; · iexact HY_2
      isplitl [HY_3]; · iexact HY_3
      iexact HY_4
    isplitl [Hq2 Hq3 Hq4 Hq5 Hq6 Hq7 Hq8 Hq9 Hq10]
    · isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      iexact Hq10
    iexists _; iexact HO

end Cert.Kernel.Hand

end
-- ==== Proof.LaunchBits.lean ====
/-
  The kernel over any operations on bits, launched: it terminates, its four arguments end as they began, its result ends
  at the contents that the body's run found, and every semaphore ends at zero.
-/
import proofs.«01_k».proof.Proof.Results
import proofs.«01_k».proof.Proof.RunBits
import proofs.«01_k».proof.Proof.Gen.Kernel.Frame

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The nine semaphore cells of the body's own transfers. -/
abbrev osem0 : Fin 9 → SemLoc sig := fun j => SemLoc.dma ⟨j.val + 2, Nat.add_lt_add_right j.isLt 2⟩
theorem ownSemFacts0 : Pipeline.OwnSemFacts spec0 osem0 := by decide
theorem ownSems0_cells (c : Dev nD) :
    (Pipeline.ownSems0 (Ix := Unit) (Name := ℕ) (U := Pipeline.UD sig nD τ) (Lvl := ℕ) (Val := Elt F) (τ := τ) osem0 c : sProp 𝕄)
      = cells0 c := by
  rw [Pipeline.ownSems0_eq_of_list c osem0 [0, 1, 2, 3, 4, 5, 6, 7, 8] (by decide) (by decide)]; rfl

/-- The arguments left in place, which the body reads, and the result, which it writes. -/
def H0 : Finset (Ref sig .tc) := {main_arg2, main_arg3}
def R0 : Finset (Ref sig .tc) := {main_v0}
theorem H0_sub : H0 ⊆ Pipeline.restRefs sig spec0 := by decide
theorem R0_sub : R0 ⊆ Pipeline.restRefs sig spec0 \ H0 := by decide
theorem H0_pts (c : Dev nD) (f : (b : Ref sig .tc) → Buf (Elt F) ((c : Thread nD τ).loc b)) :
    (bigSep H0 (fun b => ((c : Thread nD τ).loc b) ↦{fullShare} f b) : sProp 𝕄)
      = iprop(pt c hbW (f main_arg2) ∗ pt c hbS (f main_arg3)) := by
  rw [BI.bigSep_eq_bigSepL_of_eq [main_arg2, main_arg3] (by decide) (by decide)]; rfl
theorem R0_pts (c : Dev nD) (f : (b : Ref sig .tc) → Buf (Elt F) ((c : Thread nD τ).loc b)) :
    (bigSep R0 (fun b => ((c : Thread nD τ).loc b) ↦{fullShare} f b) : sProp 𝕄) = pt c hbY (f main_v0) := by
  rw [BI.bigSep_eq_bigSepL_of_eq [main_v0] (by decide) (by decide)]; rfl

/-- What the body's run leaves in the result, from some contents of the scratch. -/
def Ends (c : Dev nD) (U : Cert.Results.Contents τ sig (Elt F) c) : Prop :=
  ∃ (fC : Bf (F := F) c stC) (fX : Bf (F := F) c stX) (gW : Bf (F := F) c scW) (gS : Bf (F := F) c scS) (gP : Bf (F := F) c scP) (gY : Bf (F := F) c scY),
    stC.view.read (Elt F) fC = iblk m c 0 t0_0 ∧ stX.view.read (Elt F) fX = iblk m c 1 t0_0
    ∧ U main_v0 = (kernelRun (F := F) c fC fX (V m c main_arg2) (V m c main_arg3) gW gS gP gY (V m c main_v0)).1

/-- The contents that are the launch's but for the result. -/
def after (c : Dev nD) (R : Bf (F := F) c hbY) : Cert.Results.Contents τ sig (Elt F) c := Function.update (V m c) main_v0 R
theorem after_Y (c : Dev nD) (R) : after m c R main_v0 = R := by unfold after; rw [Function.update_self]

/-- The invariant before the body, and after it. -/
abbrev Inv0 (c : Dev nD) (Q : Cert.Results.Contents τ sig (Elt F) c → Prop) : sProp 𝕄 :=
  Cert.Results.Inv osem0 spec0 H0 R0 c (V m c) Q

/-- The proof data of the one pipeline on core `c`: the staged arguments as launched; the invariant before the body and
    after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := if t.val = 0 then Inv0 m c (fun U => U = V m c) else Inv0 m c (Ends m c)
  q _ := fullShare
  owed _ := 0

theorem A_eq (c : Dev nD) (w : Fin cfg0.W) : (dats (F := F) m 0 c).A w = V m c (Pipeline.arrRef spec0 w) := by
  dsimp only [dats]
theorem after0_0 (c : Dev nD) (t : Fin cfg0.N) : (dats (F := F) m 0 c).after 0 t = iblk m c 0 t := by dsimp only [dats]
theorem after0_1 (c : Dev nD) (t : Fin cfg0.N) : (dats (F := F) m 0 c).after 1 t = iblk m c 1 t := by dsimp only [dats]

/-- What a window's buffer holds before the body. -/
theorem before0_0 (c : Dev nD) (t : Fin cfg0.N) (d) : (dats (F := F) m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats (F := F) m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- The body on the whole buffers. -/
abbrev theBody : Prog (TpuEff nD τ sig (Elt F) Λ₀ .tc) PUnit :=
  cc0_winograd_fp8 stC (Memref.isWhole_whole _) stX (Memref.isWhole_whole _) hbW (Memref.isWhole_whole _)
    hbS (Memref.isWhole_whole _) hbY (Memref.isWhole_whole _) scW (Memref.isWhole_whole _) scS (Memref.isWhole_whole _)
    scP (Memref.isWhole_whole _) scY (Memref.isWhole_whole _) cc0_scratch4 cc0_scratch5 cc0_scratch6

theorem sound_body (c : Dev nD) (fC : Bf (F := F) c stC) (fX : Bf (F := F) c stX)
    (hC : stC.view.read (Elt F) fC = iblk m c 0 t0_0) (hX : stX.view.read (Elt F) fX = iblk m c 1 t0_0) :
    iprop(Inv0 m c (fun U => U = V m c) ∗ (∃ W, owes (c : Thread nD τ) 0 W) ∗ pt c stC fC ∗ pt c stX fX)
      ⊢ wp frame (wpE (defs₀ (F := F)) Variants.none c none) Set.univ (theBody (F := F))
        (fun _ => iprop(Inv0 m c (Ends m c) ∗ (∃ W', owes (c : Thread nD τ) 0 W') ∗ pt c stC fC ∗ pt c stX fX)) := by
  unfold Inv0 Cert.Results.Inv
  simp only [H0_pts, R0_pts]
  rw [scopedRest0_eq, ownSems0_cells]
  iintro ⟨⟨⟨⟨%gW, HW⟩, ⟨%gS, HS⟩, ⟨%gP, HP⟩, ⟨%gY, HY⟩⟩, Hg, ⟨Hq0, Hq1, Hq2, Hq3, Hq4, Hq5, Hq6, Hq7, Hq8⟩, ⟨HbW, HbS⟩, ⟨%U, %hU, HbY⟩⟩, ⟨%W, HO⟩, HC, HX⟩
  subst hU
  generalize hK : kernelRun (F := F) c fC fX (V m c main_arg2) (V m c main_arg3) gW gS gP gY (V m c main_v0) = K
  obtain ⟨K1, K2⟩ := K
  iapply (K2 W _)
  isplitl [HC]; · iexact HC
  isplitl [HX]; · iexact HX
  isplitl [HbW]; · iexact HbW
  isplitl [HbS]; · iexact HbS
  isplitl [HbY]; · iexact HbY
  isplitl [HW]; · iexact HW
  isplitl [HS]; · iexact HS
  isplitl [HP]; · iexact HP
  isplitl [HY]; · iexact HY
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [HO]; · iexact HO
  iintro ⟨HC, HX, HbW, HbS, HbY, HW, HS, HP, HY, ⟨Hq0, Hq1, Hq2, Hq3, Hq4, Hq5, Hq6, Hq7, Hq8⟩, HO⟩
  isplitr [HO HC HX]
  · isplitl [HW HS HP HY]
    · isplitl [HW]; · iexact HW
      isplitl [HS]; · iexact HS
      isplitl [HP]; · iexact HP
      iexact HY
    isplitl [Hg]; · iexact Hg
    isplitl [Hq0 Hq1 Hq2 Hq3 Hq4 Hq5 Hq6 Hq7 Hq8]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      iexact Hq8
    isplitl [HbW HbS]
    · isplitl [HbW]; · iexact HbW
      iexact HbS
    iexists (after m c K1)
    isplitr
    · ipureintro
      exact ⟨fC, fX, gW, gS, gP, gY, hC, hX, by rw [after_Y, hK]⟩
    rw [after_Y]
    iexact HbY
  isplitl [HO]; · iexact HO
  isplitl [HC]; · iexact HC
  iexact HX

theorem dats_first (c : Dev nD) : (dats (F := F) m 0 c).Φ t0_0.castSucc = Inv0 m c (fun U => U = V m c) := by
  show (if ((t0_0 : Fin cfg0.N).castSucc).val = 0 then Inv0 m c (fun U => U = V m c) else Inv0 m c (Ends m c)) = _
  exact if_pos rfl
theorem dats_last (c : Dev nD) : (dats (F := F) m 0 c).Φ t0_0.succ = Inv0 m c (Ends m c) := by
  show (if ((t0_0 : Fin cfg0.N).succ).val = 0 then Inv0 m c (fun U => U = V m c) else Inv0 m c (Ends m c)) = _
  exact if_neg (by decide)

theorem defs₀_row (t : Fin cfg0.N) :
    defs₀ (F := F) .tc cfg0.body (cfg0.bodyArgs t (cfg0.slots t)) = bodyAt0 t := by
  unfold defs₀; rw [Defs.onTc_tc]

theorem st0_0_eq : st0_0 t0_0 = stC := rfl
theorem st0_1_eq : st0_1 t0_0 = stX := rfl
theorem body_eq : bodyAt0 (F := F) t0_0 = theBody := rfl

theorem owesAt_first (c : Dev nD) : (dats (F := F) m 0 c).owesAt () t0_0.castSucc ⊢ iprop(∃ W, owes (c : Thread nD τ) 0 W) := by
  unfold Dat.owesAt Pipeline.owesWithin
  iintro ⟨%W, -, HO⟩
  iexists W
  iexact HO

theorem owesAt_last (c : Dev nD) : iprop(∃ W, owes (c : Thread nD τ) 0 W) ⊢ (dats (F := F) m 0 c).owesAt () t0_0.succ := by
  unfold Dat.owesAt Pipeline.owesWithin
  iintro ⟨%W, HO⟩
  iexists W
  isplitr
  · ipureintro; exact fun _ _ => Or.inl trivial
  iexact HO

/-- Two existentials opened. -/
theorem open_two {A B : Type} {I O R : sProp 𝕄} {φ : A → Prop} {ψ : B → Prop} {P : A → sProp 𝕄} {Q : B → sProp 𝕄}
    (h : ∀ a b, φ a → ψ b → iprop(I ∗ O ∗ P a ∗ Q b) ⊢ R) :
    iprop(I ∗ O ∗ (∃ a, ⌜φ a⌝ ∗ P a) ∗ (∃ b, ⌜ψ b⌝ ∗ Q b)) ⊢ R := by
  iintro ⟨HI, HO, ⟨%a, %ha, HA⟩, ⟨%b, %hb, HB⟩⟩
  iapply (h a b ha hb)
  isplitl [HI]; · iexact HI
  isplitl [HO]; · iexact HO
  isplitl [HA]; · iexact HA
  iexact HB

/-- Two existentials closed. -/
theorem close_two {A B : Type} {I O : sProp 𝕄} {φ : A → Prop} {ψ : B → Prop} {P : A → sProp 𝕄} {Q : B → sProp 𝕄}
    (a : A) (b : B) (ha : φ a) (hb : ψ b) :
    iprop(I ∗ O ∗ P a ∗ Q b) ⊢ iprop(I ∗ O ∗ (∃ a, ⌜φ a⌝ ∗ P a) ∗ (∃ b, ⌜ψ b⌝ ∗ Q b)) := by
  iintro ⟨HI, HO, HA, HB⟩
  isplitl [HI]; · iexact HI
  isplitl [HO]; · iexact HO
  isplitl [HA]
  · iexists a
    isplitr
    · ipureintro; exact ha
    iexact HA
  iexists b
  isplitr
  · ipureintro; exact hb
  iexact HB

/-- A whole buffer's elements. -/
theorem stC_set : (stC : Memref sig .tc _ _ _).view.set = Finset.univ := View.set_whole _
theorem stX_set : (stX : Memref sig .tc _ _ _).view.set = Finset.univ := View.set_whole _

/-- The body's triple over what the windows' buffers read. -/
theorem sound_owned (c : Dev nD) :
    iprop(Inv0 m c (fun U => U = V m c) ∗ (∃ W, owes (c : Thread nD τ) 0 W)
      ∗ owns (c : Thread nD τ) stC fullShare (iblk m c 0 t0_0) ∗ owns (c : Thread nD τ) stX fullShare (iblk m c 1 t0_0))
      ⊢ wp frame (wpE (defs₀ (F := F)) Variants.none c none) Set.univ (theBody (F := F))
        (fun _ => iprop(Inv0 m c (Ends m c) ∗ (∃ W, owes (c : Thread nD τ) 0 W)
          ∗ owns (c : Thread nD τ) stC fullShare (iblk m c 0 t0_0) ∗ owns (c : Thread nD τ) stX fullShare (iblk m c 1 t0_0))) := by
  unfold owns
  rw [stC_set, stX_set]
  refine open_two fun fC fX hC hX => ?_
  exact triple_restated (sound_body m c fC fX hC hX) rfl .rfl fun _ => close_two fC fX hC hX

/-- An existential over nothing used. -/
theorem drop_ex {A : Type} {P : sProp 𝕄} : iprop(∃ _a : A, P) ⊢ P := by
  iintro ⟨%a, H⟩
  iexact H

/-- Three of four parts weakened. -/
theorem sep_four {I O O' A A' B B' : sProp 𝕄} (hO : O ⊢ O') (hA : A ⊢ A') (hB : B ⊢ B') :
    iprop(I ∗ O ∗ A ∗ B) ⊢ iprop(I ∗ O' ∗ A' ∗ B') := by
  iintro ⟨HI, HO, HA, HB⟩
  isplitl [HI]; · iexact HI
  isplitl [HO]
  · iapply hO; iexact HO
  isplitl [HA]
  · iapply hA; iexact HA
  iapply hB; iexact HB

/-- The body's triple in the library's form. -/
theorem sound_point (c : Dev nD) :
    iprop((dats m 0 c).Φ t0_0.castSucc ∗ (dats m 0 c).owesAt () t0_0.castSucc
      ∗ (∃ d, owns (c : Thread nD τ) (st0_0 t0_0) fullShare ((dats m 0 c).before 0 t0_0 d))
      ∗ (∃ d, owns (c : Thread nD τ) (st0_1 t0_0) fullShare ((dats m 0 c).before 1 t0_0 d)))
      ⊢ wp frame (wpE (defs₀ (F := F)) Variants.none c none) Set.univ (bodyAt0 t0_0)
        (fun _ => iprop((dats m 0 c).Φ t0_0.succ ∗ (dats m 0 c).owesAt () t0_0.succ
          ∗ owns (c : Thread nD τ) (st0_0 t0_0) fullShare ((dats m 0 c).after 0 t0_0)
          ∗ owns (c : Thread nD τ) (st0_1 t0_0) fullShare ((dats m 0 c).after 1 t0_0))) := by
  rw [dats_first, dats_last, after0_0, after0_1]
  simp only [before0_0, before0_1]
  rw [body_eq]
  exact triple_restated (sound_owned m c) rfl (sep_four (owesAt_first m c) drop_ex drop_ex)
    fun _ => sep_four (owesAt_last m c) .rfl .rfl

theorem body_obligation (c : Dev nD) : BodyObligation (dats (F := F) m 0 c) (defs₀ (F := F)) Variants.none () Set.univ := fun t => by
  rw [bigSep_W0, bigSep_W0, defs₀_row, fin_N0 t]
  exact triple_restated (sound_point m c) rfl .rfl fun _ => .rfl

/-- The kernel's run: the arguments end as they began, the result at what the body's run found, the counters at zero. -/
theorem run_main : θ_run defs (onTc (τ := τ) (main (F := F))) ⟨m, fun _ => 0, ρ⟩
    (fun r => (∀ c : Dev nD, (∀ b ∈ H0, r.2.mem ((c.tc : Thread nD τ).loc b) = V m c b)
      ∧ (∃ U, Ends m c U ∧ ∀ b ∈ R0, r.2.mem ((c.tc : Thread nD τ).loc b) = U b)
      ∧ ∀ w, r.2.mem ((cfg0.spec w).arr.view.loc (c.tc : Thread nD τ)) = (dats m 0 c).arrAt w cfg0.N) ∧ r.2.sem = fun _ => 0) :=
  Cert.Results.θ_run_results cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (Q := Ends m) (hmain := Pipeline.hmain_region cfgs 0 defs₀ Variants.none m main fun c => (main_chain c).trans rfl) (hA := fun _ _ => rfl)
    (hin := fun _ => .rfl) (hout := fun _ => .rfl)

/-- The frame, beside the result. -/
theorem run_all : θ_run defs (onTc (τ := τ) (main (F := F))) ⟨m, fun _ => 0, ρ⟩ (fun r => (∀ c : Dev nD,
      (∃ (fC : Bf (F := F) c stC) (fX : Bf (F := F) c stX) (gW : Bf (F := F) c scW) (gS : Bf (F := F) c scS) (gP : Bf (F := F) c scP) (gY : Bf (F := F) c scY),
        stC.view.read (Elt F) fC = iblk m c 0 t0_0 ∧ stX.view.read (Elt F) fX = iblk m c 1 t0_0
        ∧ r.2.mem ((c.tc : Thread nD τ).loc main_v0) = (kernelRun (F := F) c fC fX (V m c main_arg2) (V m c main_arg3) gW gS gP gY (V m c main_v0)).1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ?_, h.2⟩) (run_main m ρ)
  obtain ⟨h1, ⟨U, ⟨fC, fX, gW, gS, gP, gY, hC, hX, hU⟩, h2⟩, h3⟩ := h.1 c
  exact ⟨⟨fC, fX, gW, gS, gP, gY, hC, hX, (h2 _ (by decide)).trans hU⟩, (h3 0).trans ((dats m 0 c).arrAt_in 0 rfl _), (h3 1).trans ((dats m 0 c).arrAt_in 1 rfl _),
    h1 _ (by decide), h1 _ (by decide)⟩

/-- The frame. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_all m ρ)

end Cert.Kernel.Hand

end
-- ==== Proof.RunIdeal.lean ====
import proofs.«01_k».proof.Proof.Gen.KernelIdeal.Launch
import proofs.«01_k».proof.Proof.Gen.KernelIdeal.Skeleton
import proofs.«01_k».proof.Proof.Gen.KernelIdeal.Points
import Idealize.ShloMosaic.Lib.Pipeline.FrameBody
import proofs.«01_k».proof.Proof.Rejoin
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The operands left in HBM: the weight codes, the weight scales, the result. -/
abbrev hbW : Memref sig .tc .hbm S16x8x160x320 .fp8e4m3 := Memref.whole main_arg2
abbrev hbS : Memref sig .tc .hbm S16x8x320 .f32 := Memref.whole main_arg3
abbrev hbY : Memref sig .tc .hbm S1x18x14x2560 .bf16 := Memref.whole main_v0
/-- The scratch buffers: the copies of the weight codes and scales, the parity planes, the result. -/
abbrev scW : Memref sig .tc .vmem S16x8x160x320 .fp8e4m3 := Memref.whole cc0_scratch0
abbrev scS : Memref sig .tc .vmem S16x8x320 .f32 := Memref.whole cc0_scratch1
abbrev scP : Memref sig .tc .vmem S2x5x64x2x128 .bf16 := Memref.whole cc0_scratch2
abbrev scY : Memref sig .tc .vmem S18x14x2560 .bf16 := Memref.whole cc0_scratch3
/-- The staging buffers of the two staged operands. -/
abbrev stC : Memref sig .tc .vmem S16x64x1280 .fp8e4m3 := Memref.whole cc0_stg0_0
abbrev stX : Memref sig .tc .vmem S16x64x128 .f32 := Memref.whole cc0_stg1_0

/-- The nine semaphore cells of the body's own transfers, each at zero. -/
abbrev cells0 (c : Dev nD) : sProp 𝕄 :=
  iprop(semVal ((c : Thread nD τ), SemLoc.dma 2) 0 ∗ semVal ((c : Thread nD τ), SemLoc.dma 3) 0
    ∗ semVal ((c : Thread nD τ), SemLoc.dma 4) 0 ∗ semVal ((c : Thread nD τ), SemLoc.dma 5) 0
    ∗ semVal ((c : Thread nD τ), SemLoc.dma 6) 0 ∗ semVal ((c : Thread nD τ), SemLoc.dma 7) 0
    ∗ semVal ((c : Thread nD τ), SemLoc.dma 8) 0 ∗ semVal ((c : Thread nD τ), SemLoc.dma 9) 0
    ∗ semVal ((c : Thread nD τ), SemLoc.dma 10) 0)

set_option maxHeartbeats 0 in
set_option sl_exec.dmaWindow true in
noncomputable def kernelRun (c : Dev nD)
    (fC : Bf (F := F) c stC) (fX : Bf (F := F) c stX) (fW : Bf (F := F) c hbW) (fS : Bf (F := F) c hbS)
    (gW : Bf (F := F) c scW) (gS : Bf (F := F) c scS) (gP : Bf (F := F) c scP) (gY : Bf (F := F) c scY)
    (fY : Bf (F := F) c hbY) :
    { R : Bf (F := F) c hbY //
      ∀ (W : Waits sig Unit) (K : PUnit → sProp 𝕄),
        iprop(pt c stC fC ∗ pt c stX fX ∗ pt c hbW fW ∗ pt c hbS fS ∗ pt c hbY fY
            ∗ pt c scW gW ∗ pt c scS gS ∗ pt c scP gP ∗ pt c scY gY
            ∗ cells0 c ∗ owes (c : Thread nD τ) 0 W
            ∗ (iprop(pt c stC fC ∗ pt c stX fX ∗ pt c hbW fW ∗ pt c hbS fS ∗ pt c hbY R
                ∗ (∃ f, pt c scW f) ∗ (∃ f, pt c scS f) ∗ (∃ f, pt c scP f) ∗ (∃ f, pt c scY f)
                ∗ cells0 c ∗ (∃ W', owes (c : Thread nD τ) 0 W')) -∗ K ⟨⟩))
          ⊢ wp frame (wpE (defs₀ (F := F)) Variants.none c none) Set.univ
              (cc0_winograd_fp8 stC (Memref.isWhole_whole _) stX (Memref.isWhole_whole _) hbW (Memref.isWhole_whole _)
                hbS (Memref.isWhole_whole _) hbY (Memref.isWhole_whole _) scW (Memref.isWhole_whole _) scS (Memref.isWhole_whole _)
                scP (Memref.isWhole_whole _) scY (Memref.isWhole_whole _) cc0_scratch4 cc0_scratch5 cc0_scratch6) K } := by
  refine ⟨?_, fun W K => ?run⟩
  case run =>
    iintro ⟨HC, HX, HbW, HbS, HbY, HW, HS, HP, HY, ⟨Hq2, Hq3, Hq4, Hq5, Hq6, Hq7, Hq8, Hq9, Hq10⟩, HO, Hk⟩
    sl_exec_parts!
    sl_step
    iapply Hk
    isplitl [HC]; · iexact HC
    isplitl [HX]; · iexact HX
    isplitl [HbW]; · iexact HbW
    isplitl [HbS]; · iexact HbS
    isplitl [HbY]; · iexact HbY
    isplitl [HW]; · iexists _; iexact HW
    isplitl [HS]; · iexists _; iexact HS
    isplitl [HP]; · iexists _; iexact HP
    isplitl [HY HY_2 HY_3 HY_4]
    · iapply (Cert.Rejoin.join_windows _ _ _ _ _ _ _)
      isplitl [HY]; · iexact HY
      isplitl [HY_2]; · iexact HY_2
      isplitl [HY_3]; · iexact HY_3
      iexact HY_4
    isplitl [Hq2 Hq3 Hq4 Hq5 Hq6 Hq7 Hq8 Hq9 Hq10]
    · isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      iexact Hq10
    iexists _; iexact HO

end Cert.KernelIdeal.Hand

end
-- ==== Proof.LaunchIdeal.lean ====
/-
  The kernel over any float operations, launched: it terminates, its four arguments end as they began, its result ends
  at the contents that the body's run found, and every semaphore ends at zero.
-/
import proofs.«01_k».proof.Proof.Results
import proofs.«01_k».proof.Proof.RunIdeal
import proofs.«01_k».proof.Proof.Gen.KernelIdeal.Frame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The nine semaphore cells of the body's own transfers. -/
abbrev osem0 : Fin 9 → SemLoc sig := fun j => SemLoc.dma ⟨j.val + 2, Nat.add_lt_add_right j.isLt 2⟩
theorem ownSemFacts0 : Pipeline.OwnSemFacts spec0 osem0 := by decide
theorem ownSems0_cells (c : Dev nD) :
    (Pipeline.ownSems0 (Ix := Unit) (Name := ℕ) (U := Pipeline.UD sig nD τ) (Lvl := ℕ) (Val := Elt F) (τ := τ) osem0 c : sProp 𝕄)
      = cells0 c := by
  rw [Pipeline.ownSems0_eq_of_list c osem0 [0, 1, 2, 3, 4, 5, 6, 7, 8] (by decide) (by decide)]; rfl

/-- The arguments left in place, which the body reads, and the result, which it writes. -/
def H0 : Finset (Ref sig .tc) := {main_arg2, main_arg3}
def R0 : Finset (Ref sig .tc) := {main_v0}
theorem H0_sub : H0 ⊆ Pipeline.restRefs sig spec0 := by decide
theorem R0_sub : R0 ⊆ Pipeline.restRefs sig spec0 \ H0 := by decide
theorem H0_pts (c : Dev nD) (f : (b : Ref sig .tc) → Buf (Elt F) ((c : Thread nD τ).loc b)) :
    (bigSep H0 (fun b => ((c : Thread nD τ).loc b) ↦{fullShare} f b) : sProp 𝕄)
      = iprop(pt c hbW (f main_arg2) ∗ pt c hbS (f main_arg3)) := by
  rw [BI.bigSep_eq_bigSepL_of_eq [main_arg2, main_arg3] (by decide) (by decide)]; rfl
theorem R0_pts (c : Dev nD) (f : (b : Ref sig .tc) → Buf (Elt F) ((c : Thread nD τ).loc b)) :
    (bigSep R0 (fun b => ((c : Thread nD τ).loc b) ↦{fullShare} f b) : sProp 𝕄) = pt c hbY (f main_v0) := by
  rw [BI.bigSep_eq_bigSepL_of_eq [main_v0] (by decide) (by decide)]; rfl

/-- What the body's run leaves in the result, from some contents of the scratch. -/
def Ends (c : Dev nD) (U : Cert.Results.Contents τ sig (Elt F) c) : Prop :=
  ∃ (fC : Bf (F := F) c stC) (fX : Bf (F := F) c stX) (gW : Bf (F := F) c scW) (gS : Bf (F := F) c scS) (gP : Bf (F := F) c scP) (gY : Bf (F := F) c scY),
    stC.view.read (Elt F) fC = iblk m c 0 t0_0 ∧ stX.view.read (Elt F) fX = iblk m c 1 t0_0
    ∧ U main_v0 = (kernelRun (F := F) c fC fX (V m c main_arg2) (V m c main_arg3) gW gS gP gY (V m c main_v0)).1

/-- The contents that are the launch's but for the result. -/
def after (c : Dev nD) (R : Bf (F := F) c hbY) : Cert.Results.Contents τ sig (Elt F) c := Function.update (V m c) main_v0 R
theorem after_Y (c : Dev nD) (R) : after m c R main_v0 = R := by unfold after; rw [Function.update_self]

/-- The invariant before the body, and after it. -/
abbrev Inv0 (c : Dev nD) (Q : Cert.Results.Contents τ sig (Elt F) c → Prop) : sProp 𝕄 :=
  Cert.Results.Inv osem0 spec0 H0 R0 c (V m c) Q

/-- The proof data of the one pipeline on core `c`: the staged arguments as launched; the invariant before the body and
    after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := if t.val = 0 then Inv0 m c (fun U => U = V m c) else Inv0 m c (Ends m c)
  q _ := fullShare
  owed _ := 0

theorem A_eq (c : Dev nD) (w : Fin cfg0.W) : (dats (F := F) m 0 c).A w = V m c (Pipeline.arrRef spec0 w) := by
  dsimp only [dats]
theorem after0_0 (c : Dev nD) (t : Fin cfg0.N) : (dats (F := F) m 0 c).after 0 t = iblk m c 0 t := by dsimp only [dats]
theorem after0_1 (c : Dev nD) (t : Fin cfg0.N) : (dats (F := F) m 0 c).after 1 t = iblk m c 1 t := by dsimp only [dats]

/-- What a window's buffer holds before the body. -/
theorem before0_0 (c : Dev nD) (t : Fin cfg0.N) (d) : (dats (F := F) m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats (F := F) m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- The body on the whole buffers. -/
abbrev theBody : Prog (TpuEff nD τ sig (Elt F) Λ₀ .tc) PUnit :=
  cc0_winograd_fp8 stC (Memref.isWhole_whole _) stX (Memref.isWhole_whole _) hbW (Memref.isWhole_whole _)
    hbS (Memref.isWhole_whole _) hbY (Memref.isWhole_whole _) scW (Memref.isWhole_whole _) scS (Memref.isWhole_whole _)
    scP (Memref.isWhole_whole _) scY (Memref.isWhole_whole _) cc0_scratch4 cc0_scratch5 cc0_scratch6

theorem sound_body (c : Dev nD) (fC : Bf (F := F) c stC) (fX : Bf (F := F) c stX)
    (hC : stC.view.read (Elt F) fC = iblk m c 0 t0_0) (hX : stX.view.read (Elt F) fX = iblk m c 1 t0_0) :
    iprop(Inv0 m c (fun U => U = V m c) ∗ (∃ W, owes (c : Thread nD τ) 0 W) ∗ pt c stC fC ∗ pt c stX fX)
      ⊢ wp frame (wpE (defs₀ (F := F)) Variants.none c none) Set.univ (theBody (F := F))
        (fun _ => iprop(Inv0 m c (Ends m c) ∗ (∃ W', owes (c : Thread nD τ) 0 W') ∗ pt c stC fC ∗ pt c stX fX)) := by
  unfold Inv0 Cert.Results.Inv
  simp only [H0_pts, R0_pts]
  rw [scopedRest0_eq, ownSems0_cells]
  iintro ⟨⟨⟨⟨%gW, HW⟩, ⟨%gS, HS⟩, ⟨%gP, HP⟩, ⟨%gY, HY⟩⟩, Hg, ⟨Hq0, Hq1, Hq2, Hq3, Hq4, Hq5, Hq6, Hq7, Hq8⟩, ⟨HbW, HbS⟩, ⟨%U, %hU, HbY⟩⟩, ⟨%W, HO⟩, HC, HX⟩
  subst hU
  generalize hK : kernelRun (F := F) c fC fX (V m c main_arg2) (V m c main_arg3) gW gS gP gY (V m c main_v0) = K
  obtain ⟨K1, K2⟩ := K
  iapply (K2 W _)
  isplitl [HC]; · iexact HC
  isplitl [HX]; · iexact HX
  isplitl [HbW]; · iexact HbW
  isplitl [HbS]; · iexact HbS
  isplitl [HbY]; · iexact HbY
  isplitl [HW]; · iexact HW
  isplitl [HS]; · iexact HS
  isplitl [HP]; · iexact HP
  isplitl [HY]; · iexact HY
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [HO]; · iexact HO
  iintro ⟨HC, HX, HbW, HbS, HbY, HW, HS, HP, HY, ⟨Hq0, Hq1, Hq2, Hq3, Hq4, Hq5, Hq6, Hq7, Hq8⟩, HO⟩
  isplitr [HO HC HX]
  · isplitl [HW HS HP HY]
    · isplitl [HW]; · iexact HW
      isplitl [HS]; · iexact HS
      isplitl [HP]; · iexact HP
      iexact HY
    isplitl [Hg]; · iexact Hg
    isplitl [Hq0 Hq1 Hq2 Hq3 Hq4 Hq5 Hq6 Hq7 Hq8]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      iexact Hq8
    isplitl [HbW HbS]
    · isplitl [HbW]; · iexact HbW
      iexact HbS
    iexists (after m c K1)
    isplitr
    · ipureintro
      exact ⟨fC, fX, gW, gS, gP, gY, hC, hX, by rw [after_Y, hK]⟩
    rw [after_Y]
    iexact HbY
  isplitl [HO]; · iexact HO
  isplitl [HC]; · iexact HC
  iexact HX

theorem dats_first (c : Dev nD) : (dats (F := F) m 0 c).Φ t0_0.castSucc = Inv0 m c (fun U => U = V m c) := by
  show (if ((t0_0 : Fin cfg0.N).castSucc).val = 0 then Inv0 m c (fun U => U = V m c) else Inv0 m c (Ends m c)) = _
  exact if_pos rfl
theorem dats_last (c : Dev nD) : (dats (F := F) m 0 c).Φ t0_0.succ = Inv0 m c (Ends m c) := by
  show (if ((t0_0 : Fin cfg0.N).succ).val = 0 then Inv0 m c (fun U => U = V m c) else Inv0 m c (Ends m c)) = _
  exact if_neg (by decide)

theorem defs₀_row (t : Fin cfg0.N) :
    defs₀ (F := F) .tc cfg0.body (cfg0.bodyArgs t (cfg0.slots t)) = bodyAt0 t := by
  unfold defs₀; rw [Defs.onTc_tc]

theorem st0_0_eq : st0_0 t0_0 = stC := rfl
theorem st0_1_eq : st0_1 t0_0 = stX := rfl
theorem body_eq : bodyAt0 (F := F) t0_0 = theBody := rfl

theorem owesAt_first (c : Dev nD) : (dats (F := F) m 0 c).owesAt () t0_0.castSucc ⊢ iprop(∃ W, owes (c : Thread nD τ) 0 W) := by
  unfold Dat.owesAt Pipeline.owesWithin
  iintro ⟨%W, -, HO⟩
  iexists W
  iexact HO

theorem owesAt_last (c : Dev nD) : iprop(∃ W, owes (c : Thread nD τ) 0 W) ⊢ (dats (F := F) m 0 c).owesAt () t0_0.succ := by
  unfold Dat.owesAt Pipeline.owesWithin
  iintro ⟨%W, HO⟩
  iexists W
  isplitr
  · ipureintro; exact fun _ _ => Or.inl trivial
  iexact HO

/-- Two existentials opened. -/
theorem open_two {A B : Type} {I O R : sProp 𝕄} {φ : A → Prop} {ψ : B → Prop} {P : A → sProp 𝕄} {Q : B → sProp 𝕄}
    (h : ∀ a b, φ a → ψ b → iprop(I ∗ O ∗ P a ∗ Q b) ⊢ R) :
    iprop(I ∗ O ∗ (∃ a, ⌜φ a⌝ ∗ P a) ∗ (∃ b, ⌜ψ b⌝ ∗ Q b)) ⊢ R := by
  iintro ⟨HI, HO, ⟨%a, %ha, HA⟩, ⟨%b, %hb, HB⟩⟩
  iapply (h a b ha hb)
  isplitl [HI]; · iexact HI
  isplitl [HO]; · iexact HO
  isplitl [HA]; · iexact HA
  iexact HB

/-- Two existentials closed. -/
theorem close_two {A B : Type} {I O : sProp 𝕄} {φ : A → Prop} {ψ : B → Prop} {P : A → sProp 𝕄} {Q : B → sProp 𝕄}
    (a : A) (b : B) (ha : φ a) (hb : ψ b) :
    iprop(I ∗ O ∗ P a ∗ Q b) ⊢ iprop(I ∗ O ∗ (∃ a, ⌜φ a⌝ ∗ P a) ∗ (∃ b, ⌜ψ b⌝ ∗ Q b)) := by
  iintro ⟨HI, HO, HA, HB⟩
  isplitl [HI]; · iexact HI
  isplitl [HO]; · iexact HO
  isplitl [HA]
  · iexists a
    isplitr
    · ipureintro; exact ha
    iexact HA
  iexists b
  isplitr
  · ipureintro; exact hb
  iexact HB

/-- A whole buffer's elements. -/
theorem stC_set : (stC : Memref sig .tc _ _ _).view.set = Finset.univ := View.set_whole _
theorem stX_set : (stX : Memref sig .tc _ _ _).view.set = Finset.univ := View.set_whole _

/-- The body's triple over what the windows' buffers read. -/
theorem sound_owned (c : Dev nD) :
    iprop(Inv0 m c (fun U => U = V m c) ∗ (∃ W, owes (c : Thread nD τ) 0 W)
      ∗ owns (c : Thread nD τ) stC fullShare (iblk m c 0 t0_0) ∗ owns (c : Thread nD τ) stX fullShare (iblk m c 1 t0_0))
      ⊢ wp frame (wpE (defs₀ (F := F)) Variants.none c none) Set.univ (theBody (F := F))
        (fun _ => iprop(Inv0 m c (Ends m c) ∗ (∃ W, owes (c : Thread nD τ) 0 W)
          ∗ owns (c : Thread nD τ) stC fullShare (iblk m c 0 t0_0) ∗ owns (c : Thread nD τ) stX fullShare (iblk m c 1 t0_0))) := by
  unfold owns
  rw [stC_set, stX_set]
  refine open_two fun fC fX hC hX => ?_
  exact triple_restated (sound_body m c fC fX hC hX) rfl .rfl fun _ => close_two fC fX hC hX

/-- An existential over nothing used. -/
theorem drop_ex {A : Type} {P : sProp 𝕄} : iprop(∃ _a : A, P) ⊢ P := by
  iintro ⟨%a, H⟩
  iexact H

/-- Three of four parts weakened. -/
theorem sep_four {I O O' A A' B B' : sProp 𝕄} (hO : O ⊢ O') (hA : A ⊢ A') (hB : B ⊢ B') :
    iprop(I ∗ O ∗ A ∗ B) ⊢ iprop(I ∗ O' ∗ A' ∗ B') := by
  iintro ⟨HI, HO, HA, HB⟩
  isplitl [HI]; · iexact HI
  isplitl [HO]
  · iapply hO; iexact HO
  isplitl [HA]
  · iapply hA; iexact HA
  iapply hB; iexact HB

/-- The body's triple in the library's form. -/
theorem sound_point (c : Dev nD) :
    iprop((dats m 0 c).Φ t0_0.castSucc ∗ (dats m 0 c).owesAt () t0_0.castSucc
      ∗ (∃ d, owns (c : Thread nD τ) (st0_0 t0_0) fullShare ((dats m 0 c).before 0 t0_0 d))
      ∗ (∃ d, owns (c : Thread nD τ) (st0_1 t0_0) fullShare ((dats m 0 c).before 1 t0_0 d)))
      ⊢ wp frame (wpE (defs₀ (F := F)) Variants.none c none) Set.univ (bodyAt0 t0_0)
        (fun _ => iprop((dats m 0 c).Φ t0_0.succ ∗ (dats m 0 c).owesAt () t0_0.succ
          ∗ owns (c : Thread nD τ) (st0_0 t0_0) fullShare ((dats m 0 c).after 0 t0_0)
          ∗ owns (c : Thread nD τ) (st0_1 t0_0) fullShare ((dats m 0 c).after 1 t0_0))) := by
  rw [dats_first, dats_last, after0_0, after0_1]
  simp only [before0_0, before0_1]
  rw [body_eq]
  exact triple_restated (sound_owned m c) rfl (sep_four (owesAt_first m c) drop_ex drop_ex)
    fun _ => sep_four (owesAt_last m c) .rfl .rfl

theorem body_obligation (c : Dev nD) : BodyObligation (dats (F := F) m 0 c) (defs₀ (F := F)) Variants.none () Set.univ := fun t => by
  rw [bigSep_W0, bigSep_W0, defs₀_row, fin_N0 t]
  exact triple_restated (sound_point m c) rfl .rfl fun _ => .rfl

/-- The kernel's run: the arguments end as they began, the result at what the body's run found, the counters at zero. -/
theorem run_main : θ_run defs (onTc (τ := τ) (main (F := F))) ⟨m, fun _ => 0, ρ⟩
    (fun r => (∀ c : Dev nD, (∀ b ∈ H0, r.2.mem ((c.tc : Thread nD τ).loc b) = V m c b)
      ∧ (∃ U, Ends m c U ∧ ∀ b ∈ R0, r.2.mem ((c.tc : Thread nD τ).loc b) = U b)
      ∧ ∀ w, r.2.mem ((cfg0.spec w).arr.view.loc (c.tc : Thread nD τ)) = (dats m 0 c).arrAt w cfg0.N) ∧ r.2.sem = fun _ => 0) :=
  Cert.Results.θ_run_results cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (Q := Ends m) (hmain := Pipeline.hmain_region cfgs 0 defs₀ Variants.none m main fun c => (main_chain c).trans rfl) (hA := fun _ _ => rfl)
    (hin := fun _ => .rfl) (hout := fun _ => .rfl)

/-- The frame, beside the result. -/
theorem run_all : θ_run defs (onTc (τ := τ) (main (F := F))) ⟨m, fun _ => 0, ρ⟩ (fun r => (∀ c : Dev nD,
      (∃ (fC : Bf (F := F) c stC) (fX : Bf (F := F) c stX) (gW : Bf (F := F) c scW) (gS : Bf (F := F) c scS) (gP : Bf (F := F) c scP) (gY : Bf (F := F) c scY),
        stC.view.read (Elt F) fC = iblk m c 0 t0_0 ∧ stX.view.read (Elt F) fX = iblk m c 1 t0_0
        ∧ r.2.mem ((c.tc : Thread nD τ).loc main_v0) = (kernelRun (F := F) c fC fX (V m c main_arg2) (V m c main_arg3) gW gS gP gY (V m c main_v0)).1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ?_, h.2⟩) (run_main m ρ)
  obtain ⟨h1, ⟨U, ⟨fC, fX, gW, gS, gP, gY, hC, hX, hU⟩, h2⟩, h3⟩ := h.1 c
  exact ⟨⟨fC, fX, gW, gS, gP, gY, hC, hX, (h2 _ (by decide)).trans hU⟩, (h3 0).trans ((dats m 0 c).arrAt_in 0 rfl _), (h3 1).trans ((dats m 0 c).arrAt_in 1 rfl _),
    h1 _ (by decide), h1 _ (by decide)⟩

/-- The frame. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_all m ρ)

end Cert.KernelIdeal.Hand

end
-- ==== Proof.Stage.lean ====
/-
  The kernel's stages as functions of the loaded values: the padded weight codes, a scaled product, the combination of the
  sixteen products of a group, and the two kinds of stored blocks. Each is written with the kernel's own operations, once
  for all positions, groups and blocks; the run's stored values are these.
-/
import proofs.«01_k».proof.Proof.RunIdeal

noncomputable section

namespace Cert.KernelIdeal.Hand

open Cert.KernelIdeal Cert.KernelIdeal.Gen
open Idealize.ShloMosaic Idealize.ShloMosaic.TcCoe

variable {F : FTy → Type} [FloatOps F]

/-- The zero of the weight codes' type. -/
abbrev zero8 : F .fp8e4m3 := Scalar.ofBits .fp8e4m3 0x00#8

/-- A group's weight codes of one position, padded to the 256 channels that are loaded with them: the group's channels
    begin at `32 * (g % 4)`. -/
def padded (k : Nat) (w : Vec F S1x1x160x320 .fp8e4m3) : FVec F S256x320 .fp8e4m3 :=
  match k with
  | 0 => concatenate S256x320 0 [⟨S160x320, shapeCast S160x320 w shapeCasts_S1x1x160x320_S160x320⟩, ⟨S96x320, broadcast S96x320 zero8⟩]
      concatenates_S160x320_S96x320_S256x320_d0
  | 1 => concatenate S256x320 0 [⟨S32x320, broadcast S32x320 zero8⟩, ⟨S160x320, shapeCast S160x320 w shapeCasts_S1x1x160x320_S160x320⟩,
      ⟨S64x320, broadcast S64x320 zero8⟩] concatenates_S32x320_S160x320_S64x320_S256x320_d0
  | 2 => concatenate S256x320 0 [⟨S64x320, broadcast S64x320 zero8⟩, ⟨S160x320, shapeCast S160x320 w shapeCasts_S1x1x160x320_S160x320⟩,
      ⟨S32x320, broadcast S32x320 zero8⟩] concatenates_S64x320_S160x320_S32x320_S256x320_d0
  | _ => concatenate S256x320 0 [⟨S96x320, broadcast S96x320 zero8⟩, ⟨S160x320, shapeCast S160x320 w shapeCasts_S1x1x160x320_S160x320⟩]
      concatenates_S96x320_S160x320_S256x320_d0

/-- The product of the codes with the padded weight codes, times the scale of the row, times the scale of the output. -/
def scaled (rhs : FVec F S256x320 .fp8e4m3) (cd : Vec F S1x64x256 .fp8e4m3) (xs : Vec F S1x64x128 .f32) (ws : Vec F S1x1x320 .f32) :
    FVec F S64x320 .f32 :=
  mulf (mulf (matmul dot_S64x256_S256x320_S64x320_1_0_0_1_n_n none (shapeCast S64x256 cd shapeCasts_S1x64x256_S64x256) rhs
      (constant S64x320 .f32 0x00000000#32))
    (broadcastTo S64x320 (extractStridedSlice S64x1 ![0, 0] (shapeCast S64x128 xs shapeCasts_S1x64x128_S64x128) slices_S64x128_o0_0_S64x1)
      broadcasts_S64x1_S64x320))
    (broadcastTo S64x320 (shapeCast S1x320 ws shapeCasts_S1x1x320_S1x320) broadcasts_S1x320_S64x320)

variable (c : Dev nD) (fC : Bf (F := F) c stC) (fX : Bf (F := F) c stX) (fW : Bf (F := F) c hbW) (fS : Bf (F := F) c hbS) (gS : Bf (F := F) c scS)

/-- The weight codes of position `p` and group `g` as the kernel loads them after its four copies. -/
def loadW (p g : Nat) (h : ∀ a, (![p, g, 0, 0] : Fin 4 → Nat) a + S1x1x160x320.size a ≤ S16x8x160x320.size a) : Vec F S1x1x160x320 .fp8e4m3 :=
  scW.view.readCov
    [⟨Rect.unit ![0, 6, 0, 0] S16x2x160x320.size inb_S16x8x160x320_S16x2x160x320_0_6_0_0, kernelRun.sl.dma0_4 c fW⟩,
      ⟨Rect.unit ![0, 4, 0, 0] S16x2x160x320.size inb_S16x8x160x320_S16x2x160x320_0_4_0_0, kernelRun.sl.dma0_3 c fW⟩,
      ⟨Rect.unit ![0, 2, 0, 0] S16x2x160x320.size inb_S16x8x160x320_S16x2x160x320_0_2_0_0, kernelRun.sl.dma0_2 c fW⟩,
      ⟨Rect.unit ![0, 0, 0, 0] S16x2x160x320.size inb_S16x8x160x320_S16x2x160x320_0_0_0_0, kernelRun.sl.dma0_1 c fW⟩]
    (Rect.unit (s := S16x8x160x320) ![p, g, 0, 0] S1x1x160x320.size h).toLoadRect

/-- The codes of position `p` over the 256 channels from `k0`. -/
def loadC (p k0 : Nat) (h : ∀ a, (![p, 0, k0] : Fin 3 → Nat) a + S1x64x256.size a ≤ S16x64x1280.size a) : Vec F S1x64x256 .fp8e4m3 :=
  View.readAt (Elt F) stC.view (Rect.unit (s := S16x64x1280) ![p, 0, k0] S1x64x256.size h).toLoadRect fC

/-- The scales of the rows at position `p`. -/
def loadX (p : Nat) (h : ∀ a, (![p, 0, 0] : Fin 3 → Nat) a + S1x64x128.size a ≤ S16x64x128.size a) : Vec F S1x64x128 .f32 :=
  View.readAt (Elt F) stX.view (Rect.unit (s := S16x64x128) ![p, 0, 0] S1x64x128.size h).toLoadRect fX

/-- The scales of the outputs at position `p` and group `g`. -/
def loadS (p g : Nat) (h : ∀ a, (![p, g, 0] : Fin 3 → Nat) a + S1x1x320.size a ≤ S16x8x320.size a) : Vec F S1x1x320 .f32 :=
  View.readAt (Elt F) scS.view (Rect.unit (s := S16x8x320) ![p, g, 0] S1x1x320.size h).toLoadRect
    (View.write (Elt F) scS.view gS (kernelRun.sl.dma0 c fS) Finset.univ)

/-- The scaled product of position `p` and group `g`. -/
def ms (g p : Nat) (hg : g < 8) (hp : p < 16) : FVec F S64x320 .f32 :=
  scaled (padded (g % 4) (loadW c fW p g (by intro a; fin_cases a <;> simp <;> omega)))
    (loadC c fC p (128 * (g + g / 4)) (by intro a; fin_cases a <;> simp <;> omega))
    (loadX c fX p (by intro a; fin_cases a <;> simp <;> omega))
    (loadS c fS gS p g (by intro a; fin_cases a <;> simp <;> omega))

/-- The first and second output column of a row of four positions. -/
def left (g i : Nat) (hg : g < 8) (hi : i < 4) : FVec F S64x320 .f32 :=
  addf (addf (ms c fC fX fW fS gS g (4 * i) hg (by omega)) (ms c fC fX fW fS gS g (4 * i + 1) hg (by omega)))
    (ms c fC fX fW fS gS g (4 * i + 2) hg (by omega))
def right (g i : Nat) (hg : g < 8) (hi : i < 4) : FVec F S64x320 .f32 :=
  subf (subf (ms c fC fX fW fS gS g (4 * i + 1) hg (by omega)) (ms c fC fX fW fS gS g (4 * i + 2) hg (by omega)))
    (ms c fC fX fW fS gS g (4 * i + 3) hg (by omega))

/-- The first and second output row of four combined rows. -/
def upper (t0 t1 t2 : FVec F S64x320 .f32) : FVec F S64x320 .f32 := addf (addf t0 t1) t2
def lower (t1 t2 t3 : FVec F S64x320 .f32) : FVec F S64x320 .f32 := subf (subf t1 t2) t3

/-- The group's outputs at row `a` and column `0` (`lo`) or `1` (`hi`) of every tile, as the output type. -/
def outLo (g a : Nat) (hg : g < 8) : FVec F S64x320 .bf16 :=
  match a with
  | 0 => truncf .bf16 (upper (left c fC fX fW fS gS g 0 hg (by omega)) (left c fC fX fW fS gS g 1 hg (by omega)) (left c fC fX fW fS gS g 2 hg (by omega)))
  | _ => truncf .bf16 (lower (left c fC fX fW fS gS g 1 hg (by omega)) (left c fC fX fW fS gS g 2 hg (by omega)) (left c fC fX fW fS gS g 3 hg (by omega)))
def outHi (g a : Nat) (hg : g < 8) : FVec F S64x320 .bf16 :=
  match a with
  | 0 => truncf .bf16 (upper (right c fC fX fW fS gS g 0 hg (by omega)) (right c fC fX fW fS gS g 1 hg (by omega)) (right c fC fX fW fS gS g 2 hg (by omega)))
  | _ => truncf .bf16 (lower (right c fC fX fW fS gS g 1 hg (by omega)) (right c fC fX fW fS gS g 2 hg (by omega)) (right c fC fX fW fS gS g 3 hg (by omega)))

/-- Two groups side by side. -/
def side (x y : FVec F S64x320 .bf16) : FVec F S64x640 .bf16 :=
  concatenate S64x640 1 [⟨S64x320, x⟩, ⟨S64x320, y⟩] concatenates_S64x320_S64x320_S64x640_d1

/-- A block of 128 lanes of the two columns, stored as pairs. -/
def pairs (lo hi : FVec F S64x640 .bf16) (l : Nat) (h : S64x640.Slices ![0, l] S64x128) : Vec F S1x1x64x2x128 .bf16 :=
  interleaveRows S1x1x64x2x128
    (shapeCast S1x1x64x1x128 (shapeCast S1x1x64x128 (extractStridedSlice S64x128 ![0, l] lo h) shapeCasts_S64x128_S1x1x64x128) shapeCasts_S1x1x64x128_S1x1x64x1x128)
    (shapeCast S1x1x64x1x128 (shapeCast S1x1x64x128 (extractStridedSlice S64x128 ![0, l] hi h) shapeCasts_S64x128_S1x1x64x128) shapeCasts_S1x1x64x128_S1x1x64x1x128)
    bitcasts_S1x1x64x2x128_w16_S1x1x64x1x128_w32

/-- The stored block of lanes of the `hh`-th pair of groups at output row `a`. -/
def planeBlock (hh a l : Nat) (hhh : hh < 4) (h : S64x640.Slices ![0, l] S64x128) : Vec F S1x1x64x2x128 .bf16 :=
  pairs (side (outLo c fC fX fW fS gS (2 * hh) a (by omega)) (outLo c fC fX fW fS gS (2 * hh + 1) a (by omega)))
    (side (outHi c fC fX fW fS gS (2 * hh) a (by omega)) (outHi c fC fX fW fS gS (2 * hh + 1) a (by omega))) l h

/-- The five stores of one row of tiles, over the stores before. -/
def plane5 (hh a : Nat) (hhh : hh < 4) (ha : a < 2) (L : List (View.Piece (Elt F) S2x5x64x2x128 .bf16)) : List (View.Piece (Elt F) S2x5x64x2x128 .bf16) :=
  ⟨Rect.unit ![a, 4, 0, 0, 0] S1x1x64x2x128.size (by intro b; fin_cases b <;> simp <;> omega), planeBlock c fC fX fW fS gS hh a 512 hhh slices_S64x640_o0_512_S64x128⟩ ::
  ⟨Rect.unit ![a, 3, 0, 0, 0] S1x1x64x2x128.size (by intro b; fin_cases b <;> simp <;> omega), planeBlock c fC fX fW fS gS hh a 384 hhh slices_S64x640_o0_384_S64x128⟩ ::
  ⟨Rect.unit ![a, 2, 0, 0, 0] S1x1x64x2x128.size (by intro b; fin_cases b <;> simp <;> omega), planeBlock c fC fX fW fS gS hh a 256 hhh slices_S64x640_o0_256_S64x128⟩ ::
  ⟨Rect.unit ![a, 1, 0, 0, 0] S1x1x64x2x128.size (by intro b; fin_cases b <;> simp <;> omega), planeBlock c fC fX fW fS gS hh a 128 hhh slices_S64x640_o0_128_S64x128⟩ ::
  ⟨Rect.unit ![a, 0, 0, 0, 0] S1x1x64x2x128.size (by intro b; fin_cases b <;> simp <;> omega), planeBlock c fC fX fW fS gS hh a 0 hhh slices_S64x640_o0_0_S64x128⟩ :: L

/-- One row of seven tiles read back as pairs, laid out as fourteen columns. -/
def tileRow (raw : Vec F S1x1x7x2x128 .bf16) : Vec F S1x14x128 .bf16 :=
  interleaveRows S1x14x128
    (shapeCast S1x7x128 (shapeCast S7x128 (shapeCast S1x1x7x128 (rowsOfParity 0 S1x1x7x1x128 raw bitcasts_S1x1x7x2x128_w16_S1x1x7x1x128_w32) shapeCasts_S1x1x7x1x128_S1x1x7x128) shapeCasts_S1x1x7x128_S7x128) shapeCasts_S7x128_S1x7x128)
    (shapeCast S1x7x128 (shapeCast S7x128 (shapeCast S1x1x7x128 (rowsOfParity 1 S1x1x7x1x128 raw bitcasts_S1x1x7x2x128_w16_S1x1x7x1x128_w32) shapeCasts_S1x1x7x1x128_S1x1x7x128) shapeCasts_S1x1x7x128_S7x128) shapeCasts_S7x128_S1x7x128)
    bitcasts_S1x14x128_w16_S1x7x128_w32

/-- The store of row `2 r + a`, lanes from `640 hh + 128 col`, out of the plane that `H` left. -/
def rowPiece (H : List (View.Piece (Elt F) S2x5x64x2x128 .bf16)) (hh a r col : Nat) (h1 : hh < 4) (h2 : a < 2) (h3 : r < 9) (h4 : col < 5) :
    View.Piece (Elt F) S18x14x2560 .bf16 :=
  ⟨Rect.unit ![2 * r + a, 0, 640 * hh + 128 * col] S1x14x128.size (by intro b; fin_cases b <;> simp <;> omega),
    tileRow (scP.view.readCov H (Rect.unit (s := S2x5x64x2x128) ![a, col, 7 * r, 0, 0] S1x1x7x2x128.size (by intro b; fin_cases b <;> simp <;> omega)).toLoadRect)⟩

/-- The five stores of one image row. -/
def row5 (H : List (View.Piece (Elt F) S2x5x64x2x128 .bf16)) (hh a r : Nat) (h1 : hh < 4) (h2 : a < 2) (h3 : r < 9)
    (L : List (View.Piece (Elt F) S18x14x2560 .bf16)) : List (View.Piece (Elt F) S18x14x2560 .bf16) :=
  rowPiece H hh a r 4 h1 h2 h3 (by omega) :: rowPiece H hh a r 3 h1 h2 h3 (by omega) :: rowPiece H hh a r 2 h1 h2 h3 (by omega)
    :: rowPiece H hh a r 1 h1 h2 h3 (by omega) :: rowPiece H hh a r 0 h1 h2 h3 (by omega) :: L

/-- The stores of the nine image rows of one parity. -/
def rows9 (H : List (View.Piece (Elt F) S2x5x64x2x128 .bf16)) (hh a : Nat) (h1 : hh < 4) (h2 : a < 2)
    (L : List (View.Piece (Elt F) S18x14x2560 .bf16)) : List (View.Piece (Elt F) S18x14x2560 .bf16) :=
  row5 H hh a 8 h1 h2 (by omega) (row5 H hh a 7 h1 h2 (by omega) (row5 H hh a 6 h1 h2 (by omega) (row5 H hh a 5 h1 h2 (by omega)
    (row5 H hh a 4 h1 h2 (by omega) (row5 H hh a 3 h1 h2 (by omega) (row5 H hh a 2 h1 h2 (by omega) (row5 H hh a 1 h1 h2 (by omega)
      (row5 H hh a 0 h1 h2 (by omega) L))))))))

end Cert.KernelIdeal.Hand

end
-- ==== Proof.Winograd.lean ====
/-
  The formulas that both programs meet in: the two small transforms of Winograd's F(2x2, 3x3) and the scaled product
  between them, over the extended reals.
-/
import Idealize.ShloMosaic.Lib.Pointwise

noncomputable section

namespace Cert.Winograd

/-- The output transform on four values: the first row for `b = 0`, the second otherwise. -/
def At (b : ℕ) (f : Fin 4 → EReal) : EReal := if b < 1 then f 0 + f 1 + f 2 else f 1 - f 2 - f 3

/-- The input transform on four values: row `i`. -/
def Bt (i : Fin 4) (d : Fin 4 → EReal) : EReal :=
  match i with
  | 0 => d 0 - d 2
  | 1 => d 1 + d 2
  | 2 => d 2 - d 1
  | 3 => d 1 - d 3

/-- Position `(i, j)` of the transformed tile as one number. -/
abbrev pos (i j : Fin 4) : Fin 16 := ⟨i.val * 4 + j.val, by omega⟩

/-- The scaled product at one position, tile, group and output channel. -/
def Ms (C : Fin 16 → Fin 63 → Fin 1280 → EReal) (X : Fin 16 → Fin 63 → EReal)
    (W : Fin 16 → Fin 8 → Fin 160 → Fin 320 → EReal) (S : Fin 16 → Fin 8 → Fin 320 → EReal)
    (p : Fin 16) (n : Fin 63) (g : Fin 8) (o : Fin 320) : EReal :=
  (∑ k : Fin 160, C p n ⟨g.val * 160 + k.val, by omega⟩ * W p g k o) * X p n * S p g o

/-- The result at row `h`, column `w` and channel `o`: the products, combined over columns and then over rows. -/
def Y (C : Fin 16 → Fin 63 → Fin 1280 → EReal) (X : Fin 16 → Fin 63 → EReal)
    (W : Fin 16 → Fin 8 → Fin 160 → Fin 320 → EReal) (S : Fin 16 → Fin 8 → Fin 320 → EReal)
    (h : Fin 18) (w : Fin 14) (o : Fin 2560) : EReal :=
  At (h.val % 2) fun i => At (w.val % 2) fun j =>
    Ms C X W S (pos i j) ⟨h.val / 2 * 7 + w.val / 2, by omega⟩ ⟨o.val / 320, by omega⟩ ⟨o.val % 320, by omega⟩

/-- The zero-padded image at padded row `r` and column `s`. -/
def pad (x : Fin 18 → Fin 14 → Fin 1280 → EReal) (r s : ℕ) (ch : Fin 1280) : EReal :=
  if h : (1 ≤ r ∧ r < 19) ∧ 1 ≤ s ∧ s < 15 then x ⟨r - 1, by omega⟩ ⟨s - 1, by omega⟩ ch else 0

theorem pad_eq {x : Fin 18 → Fin 14 → Fin 1280 → EReal} {r r' s s' : ℕ} {ch : Fin 1280} (hr : r = r') (hs : s = s') :
    pad x r s ch = pad x r' s' ch := by rw [hr, hs]

theorem Bt_0 (d : Fin 4 → EReal) : Bt 0 d = d 0 - d 2 := rfl
theorem Bt_1 (d : Fin 4 → EReal) : Bt 1 d = d 1 + d 2 := rfl
theorem Bt_2 (d : Fin 4 → EReal) : Bt 2 d = d 2 - d 1 := rfl
theorem Bt_3 (d : Fin 4 → EReal) : Bt 3 d = d 1 - d 3 := rfl

/-- The transformed image at position `(i, j)`, tile `n` and channel `ch`: rows first. -/
def V (x : Fin 18 → Fin 14 → Fin 1280 → EReal) (i j : Fin 4) (n : Fin 63) (ch : Fin 1280) : EReal :=
  Bt j fun l => Bt i fun k => pad x (2 * (n.val / 7) + k.val) (2 * (n.val % 7) + l.val) ch

end Cert.Winograd

end
-- ==== Proof.StageAt.lean ====
/-
  The kernel's stages read at an index, over the extended reals.
-/
import proofs.«01_k».proof.Proof.Stage
import proofs.«01_k».proof.Proof.Winograd

noncomputable section

namespace Cert.KernelIdeal.Hand

open Cert.KernelIdeal Cert.KernelIdeal.Gen
open Idealize.ShloMosaic Idealize.ShloMosaic.TcCoe

/-- A sum over 256 terms of which only the 160 from `off` on are not zero. -/
theorem sum_window (off : ℕ) (hoff : off + 160 ≤ 256) (f : Fin 256 → EReal) (g : Fin 160 → EReal)
    (h1 : ∀ k : Fin 160, f ⟨off + k.val, by omega⟩ = g k) (h0 : ∀ k : Fin 256, ¬ (off ≤ k.val ∧ k.val < off + 160) → f k = 0) :
    ∑ k, f k = ∑ k, g k := by
  let e : Fin 160 ↪ Fin 256 := ⟨fun k => ⟨off + k.val, by omega⟩, fun a b h => by
    have := congrArg Fin.val h; simp at this; exact Fin.ext (by omega)⟩
  have : ∑ k, g k = ∑ k ∈ Finset.univ.map e, f k := by
    rw [Finset.sum_map]; exact Finset.sum_congr rfl fun k _ => (h1 k).symm
  rw [this]
  symm
  refine Finset.sum_subset (Finset.subset_univ _) fun k _ hk => h0 k fun hr => hk ?_
  rw [Finset.mem_map]
  exact ⟨⟨k.val - off, by omega⟩, Finset.mem_univ _, Fin.ext (by show off + (k.val - off) = k.val; omega)⟩

theorem zero8_eq : Ideal.ofBits FTy.fp8e4m3 0#8 = 0 := Ideal.ofBits_zero .fp8e4m3

/-- The padded weight codes: zero off the group's own channels. -/
theorem padded_at (k : ℕ) (hk : k < 4) (w : Vec Ideal S1x1x160x320 .fp8e4m3) (i : Fin 256) (o : Fin 320) :
    padded (F := Ideal) k w (ix2 i o)
      = if h : 32 * k ≤ i.val ∧ i.val < 32 * k + 160 then w (ix4 0 0 ⟨i.val - 32 * k, by omega⟩ o) else (0 : EReal) := by
  interval_cases k <;> pointwise [padded] <;> simp only [zero8_eq] <;> split_ifs <;> first | rfl | (exfalso; omega) | (rw [dif_pos] <;> omega)

theorem scaled_at (rhs : FVec Ideal S256x320 .fp8e4m3) (cd : Vec Ideal S1x64x256 .fp8e4m3) (xs : Vec Ideal S1x64x128 .f32)
    (ws : Vec Ideal S1x1x320 .f32) (r : Fin 64) (o : Fin 320) :
    scaled (F := Ideal) rhs cd xs ws (ix2 r o) = (∑ k : Fin 256, cd (ix3 0 r k) * rhs (ix2 k o)) * xs (ix3 0 r 0) * ws (ix3 0 0 o) := by
  pointwise [scaled]

theorem side_at (x y : FVec Ideal S64x320 .bf16) (r : Fin 64) (c : Fin 640) :
    side (F := Ideal) x y (ix2 r c) = if h : c.val < 320 then x (ix2 r ⟨c.val, h⟩) else y (ix2 r ⟨c.val - 320, by omega⟩) := by
  pointwise [side]

theorem pairs_at (lo hi : FVec Ideal S64x640 .bf16) (l : ℕ) (h : S64x640.Slices ![0, l] S64x128) (hl : l + 128 ≤ 640) (r : Fin 64) (b : Fin 2) (k : Fin 128) :
    pairs (F := Ideal) lo hi l h (ix5 0 0 r b k) = if b.val = 0 then lo (ix2 r ⟨l + k.val, by omega⟩) else hi (ix2 r ⟨l + k.val, by omega⟩) := by
  pointwise [pairs]
  rw [Nat.mod_eq_of_lt b.isLt]

theorem tileRow_at (raw : Vec Ideal S1x1x7x2x128 .bf16) (x : Fin 14) (k : Fin 128) :
    tileRow (F := Ideal) raw (ix3 0 x k) = raw (ix5 0 0 ⟨x.val / 2, by omega⟩ ⟨x.val % 2, by omega⟩ k) := by
  pointwise [tileRow]
  have h := Nat.mod_two_eq_zero_or_one x.val
  rcases h with h | h
  · rw [if_pos h]; congr 2; exact Fin.ext h.symm
  · rw [if_neg (by omega)]; congr 2; exact Fin.ext h.symm

/-! ## The loads -/

variable (c : Dev nD) (fC : Bf (F := Ideal) c stC) (fX : Bf (F := Ideal) c stX) (fW : Bf (F := Ideal) c hbW) (fS : Bf (F := Ideal) c hbS) (gS : Bf (F := Ideal) c scS)

theorem loadC_at (p k0 : ℕ) (hp : p < 16) (hk : k0 + 256 ≤ 1280) (h) (r : Fin 64) (k : Fin 256) :
    loadC c fC p k0 h (ix3 0 r k) = stC.view.read (Elt Ideal) fC (ix3 ⟨p, hp⟩ r ⟨k0 + k.val, by omega⟩) := by
  show stC.view.read (Elt Ideal) fC _ = _
  congr 1
  funext a
  apply Fin.ext
  fin_cases a
  · show p + 1 * 0 = p; omega
  · show 0 + 1 * r.val = r.val; omega
  · show k0 + 1 * k.val = k0 + k.val; omega

theorem loadX_at (p : ℕ) (hp : p < 16) (h) (r : Fin 64) (k : Fin 128) :
    loadX c fX p h (ix3 0 r k) = stX.view.read (Elt Ideal) fX (ix3 ⟨p, hp⟩ r k) := by
  show stX.view.read (Elt Ideal) fX _ = _
  congr 1
  funext a
  apply Fin.ext
  fin_cases a
  · show p + 1 * 0 = p; omega
  · show 0 + 1 * r.val = r.val; omega
  · show 0 + 1 * k.val = k.val; omega

theorem loadS_at (p g : ℕ) (hp : p < 16) (hg : g < 8) (h) (o : Fin 320) :
    loadS c fS gS p g h (ix3 0 0 o) = hbS.view.read (Elt Ideal) fS (ix3 ⟨p, hp⟩ ⟨g, hg⟩ o) := by
  have e : View.write (Elt Ideal) scS.view gS (kernelRun.sl.dma0 c fS) Finset.univ = hbS.view.read (Elt Ideal) fS := by
    rw [View.write_whole_univ]
    rfl
  unfold loadS
  rw [e]
  show hbS.view.read (Elt Ideal) fS _ = _
  congr 1
  funext a
  apply Fin.ext
  fin_cases a
  · show p + 1 * 0 = p; omega
  · show g + 1 * 0 = g; omega
  · show 0 + 1 * o.val = o.val; omega

/-- A copy of two groups holds the weight codes. -/
theorem loadW_at (p g : ℕ) (hp : p < 16) (hg : g < 8) (h) (k : Fin 160) (o : Fin 320) :
    loadW c fW p g h (ix4 0 0 k o) = hbW.view.read (Elt Ideal) fW (ix4 ⟨p, hp⟩ ⟨g, hg⟩ k o) := by
  unfold loadW
  rw [View.readCov_eq_canon']
  have e : (Rect.unit (s := S16x8x160x320) ![p, g, 0, 0] S1x1x160x320.size h).toLoadRect.idx (ix4 0 0 k o) = ix4 ⟨p, hp⟩ ⟨g, hg⟩ k o := by
    funext a
    apply Fin.ext
    fin_cases a
    · show p + 1 * 0 = p; omega
    · show g + 1 * 0 = g; omega
    · show 0 + 1 * k.val = k.val; omega
    · show 0 + 1 * o.val = o.val; omega
  show View.canon _ _ = _
  rw [e]
  refine View.canon_apply_of_pieces (hbW.view.read (Elt Ideal) fW) _ ?_ _ ?_
  · intro q hq
    simp only [List.mem_cons, List.not_mem_nil, or_false] at hq
    rcases hq with rfl | rfl | rfl | rfl <;> intro x <;> rfl
  · have hr : ∀ (b : ℕ) (hb : ∀ a, (![0, b, 0, 0] : Fin 4 → ℕ) a + S16x2x160x320.size a ≤ S16x8x160x320.size a), b ≤ g → g < b + 2 →
        (ix4 ⟨p, hp⟩ ⟨g, hg⟩ k o : S16x8x160x320.Idx) ∈ (Rect.unit (s := S16x8x160x320) ![0, b, 0, 0] S16x2x160x320.size hb).set := by
      intro b hb h1 h2
      rw [Rect.mem_set_unit]
      intro a
      fin_cases a
      · exact ⟨Nat.zero_le _, by show p < 0 + 16; omega⟩
      · exact ⟨h1, h2⟩
      · exact ⟨Nat.zero_le _, by show k.val < 0 + 160; omega⟩
      · exact ⟨Nat.zero_le _, by show o.val < 0 + 320; omega⟩
    by_cases h6 : 6 ≤ g
    · exact ⟨_, List.mem_cons_self, hr 6 inb_S16x8x160x320_S16x2x160x320_0_6_0_0 h6 (by omega)⟩
    by_cases h4 : 4 ≤ g
    · exact ⟨_, List.mem_cons_of_mem _ (List.mem_cons_self), hr 4 inb_S16x8x160x320_S16x2x160x320_0_4_0_0 h4 (by omega)⟩
    by_cases h2 : 2 ≤ g
    · exact ⟨_, List.mem_cons_of_mem _ (List.mem_cons_of_mem _ (List.mem_cons_self)), hr 2 inb_S16x8x160x320_S16x2x160x320_0_2_0_0 h2 (by omega)⟩
    · exact ⟨_, List.mem_cons_of_mem _ (List.mem_cons_of_mem _ (List.mem_cons_of_mem _ (List.mem_cons_self))), hr 0 inb_S16x8x160x320_S16x2x160x320_0_0_0_0 (by omega) (by omega)⟩

end Cert.KernelIdeal.Hand

end
-- ==== Proof.KernAt.lean ====
/-
  What the kernel stores at an index: the parity planes hold Winograd's outputs, and each store of an image row holds
  the result's values.
-/
import proofs.«01_k».proof.Proof.StageAt
import Idealize.ShloMosaic.Lib.Pipeline.Value

noncomputable section

namespace Cert.KernelIdeal.Hand

open Cert.KernelIdeal Cert.KernelIdeal.Gen
open Idealize.ShloMosaic Idealize.ShloMosaic.TcCoe

variable (c : Dev nD) (fC : Bf (F := Ideal) c stC) (fX : Bf (F := Ideal) c stX) (fW : Bf (F := Ideal) c hbW) (fS : Bf (F := Ideal) c hbS) (gS : Bf (F := Ideal) c scS)

/-- The four arguments as functions of their coordinates: the codes and scales of the first 63 rows, the weight codes,
    the weight scales. -/
def aC (p : Fin 16) (n : Fin 63) (k : Fin 1280) : EReal := stC.view.read (Elt Ideal) fC (ix3 p ⟨n.val, by omega⟩ k)
def aX (p : Fin 16) (n : Fin 63) : EReal := stX.view.read (Elt Ideal) fX (ix3 p ⟨n.val, by omega⟩ 0)
def aW (p : Fin 16) (g : Fin 8) (k : Fin 160) (o : Fin 320) : EReal := hbW.view.read (Elt Ideal) fW (ix4 p g k o)
def aS (p : Fin 16) (g : Fin 8) (o : Fin 320) : EReal := hbS.view.read (Elt Ideal) fS (ix3 p g o)

/-- The scaled product of position `p` and group `g` at a row below 63. -/
theorem ms_at (g p : ℕ) (hg : g < 8) (hp : p < 16) (n : Fin 63) (o : Fin 320) :
    ms c fC fX fW fS gS g p hg hp (ix2 ⟨n.val, by omega⟩ o)
      = Cert.Winograd.Ms (aC c fC) (aX c fX) (aW c fW) (aS c fS) ⟨p, hp⟩ n ⟨g, hg⟩ o := by
  unfold ms
  rw [scaled_at, loadX_at _ _ _ hp, loadS_at _ _ _ _ _ hp hg]
  unfold Cert.Winograd.Ms
  congr 2
  refine sum_window (32 * (g % 4)) (by omega) _ _ (fun k => ?_) (fun k hk => ?_)
  · rw [loadC_at _ _ _ _ hp (by omega), padded_at _ (by omega), dif_pos ⟨by show _ ≤ 32 * (g % 4) + k.val; omega, by show 32 * (g % 4) + k.val < _; omega⟩,
      loadW_at _ _ _ _ hp hg]
    unfold aC aW
    congr 2
    · congr 1
      exact Fin.ext (by show 128 * (g + g / 4) + (32 * (g % 4) + k.val) = g * 160 + k.val; omega)
    · congr 1
      exact Fin.ext (by show 32 * (g % 4) + k.val - 32 * (g % 4) = k.val; omega)
  · rw [padded_at _ (by omega), dif_neg hk, mul_zero]

/-- The output at row `a` and column `b` of tile `n`, for group `g` and channel `o` of it. -/
def out (a b : ℕ) (n : Fin 63) (g : Fin 8) (o : Fin 320) : EReal :=
  Cert.Winograd.At a fun i => Cert.Winograd.At b fun j =>
    Cert.Winograd.Ms (aC c fC) (aX c fX) (aW c fW) (aS c fS) (Cert.Winograd.pos i j) n g o

theorem left_at (g i : ℕ) (hg : g < 8) (hi : i < 4) (n : Fin 63) (o : Fin 320) :
    left c fC fX fW fS gS g i hg hi (ix2 ⟨n.val, by omega⟩ o)
      = Cert.Winograd.At 0 fun j => Cert.Winograd.Ms (aC c fC) (aX c fX) (aW c fW) (aS c fS) (Cert.Winograd.pos ⟨i, hi⟩ j) n ⟨g, hg⟩ o := by
  unfold left Cert.Winograd.At
  show ms c fC fX fW fS gS g _ hg _ _ + ms c fC fX fW fS gS g _ hg _ _ + ms c fC fX fW fS gS g _ hg _ _ = _
  simp only [ms_at]
  rw [if_pos Nat.zero_lt_one]
  have e : ∀ (k : Fin 4) (q : ℕ) (hq : q < 16), q = 4 * i + k.val → (⟨q, hq⟩ : Fin 16) = Cert.Winograd.pos ⟨i, hi⟩ k :=
    fun k q hq h => Fin.ext (by show q = i * 4 + k.val; omega)
  rw [e 0 (4 * i) _ rfl, e 1 (4 * i + 1) _ rfl, e 2 (4 * i + 2) _ rfl]

theorem right_at (g i : ℕ) (hg : g < 8) (hi : i < 4) (n : Fin 63) (o : Fin 320) :
    right c fC fX fW fS gS g i hg hi (ix2 ⟨n.val, by omega⟩ o)
      = Cert.Winograd.At 1 fun j => Cert.Winograd.Ms (aC c fC) (aX c fX) (aW c fW) (aS c fS) (Cert.Winograd.pos ⟨i, hi⟩ j) n ⟨g, hg⟩ o := by
  unfold right Cert.Winograd.At
  show ms c fC fX fW fS gS g _ hg _ _ - ms c fC fX fW fS gS g _ hg _ _ - ms c fC fX fW fS gS g _ hg _ _ = _
  simp only [ms_at]
  rw [if_neg (lt_irrefl 1)]
  have e : ∀ (k : Fin 4) (q : ℕ) (hq : q < 16), q = 4 * i + k.val → (⟨q, hq⟩ : Fin 16) = Cert.Winograd.pos ⟨i, hi⟩ k :=
    fun k q hq h => Fin.ext (by show q = i * 4 + k.val; omega)
  rw [e 1 (4 * i + 1) _ rfl, e 2 (4 * i + 2) _ rfl, e 3 (4 * i + 3) _ rfl]

theorem outLo_at (g a : ℕ) (hg : g < 8) (ha : a < 2) (n : Fin 63) (o : Fin 320) :
    outLo c fC fX fW fS gS g a hg (ix2 ⟨n.val, by omega⟩ o) = out c fC fX fW fS a 0 n ⟨g, hg⟩ o := by
  interval_cases a
  · show left c fC fX fW fS gS g 0 hg _ _ + left c fC fX fW fS gS g 1 hg _ _ + left c fC fX fW fS gS g 2 hg _ _ = _
    simp only [left_at]
    rfl
  · show left c fC fX fW fS gS g 1 hg _ _ - left c fC fX fW fS gS g 2 hg _ _ - left c fC fX fW fS gS g 3 hg _ _ = _
    simp only [left_at]
    rfl

theorem outHi_at (g a : ℕ) (hg : g < 8) (ha : a < 2) (n : Fin 63) (o : Fin 320) :
    outHi c fC fX fW fS gS g a hg (ix2 ⟨n.val, by omega⟩ o) = out c fC fX fW fS a 1 n ⟨g, hg⟩ o := by
  interval_cases a
  · show right c fC fX fW fS gS g 0 hg _ _ + right c fC fX fW fS gS g 1 hg _ _ + right c fC fX fW fS gS g 2 hg _ _ = _
    simp only [right_at]
    rfl
  · show right c fC fX fW fS gS g 1 hg _ _ - right c fC fX fW fS gS g 2 hg _ _ - right c fC fX fW fS gS g 3 hg _ _ = _
    simp only [right_at]
    rfl

/-- A stored block of lanes: lane `k` of the block from lane `l` is the channel `640 hh + l + k`. -/
theorem planeBlock_at (hh a l : ℕ) (hhh : hh < 4) (ha : a < 2) (h : S64x640.Slices ![0, l] S64x128) (hl : l + 128 ≤ 640)
    (n : Fin 63) (b : Fin 2) (k : Fin 128) :
    planeBlock c fC fX fW fS gS hh a l hhh h (ix5 0 0 ⟨n.val, by omega⟩ b k)
      = out c fC fX fW fS a b.val n ⟨(640 * hh + l + k.val) / 320, by omega⟩ ⟨(640 * hh + l + k.val) % 320, by omega⟩ := by
  unfold planeBlock
  rw [pairs_at _ _ _ _ hl, side_at, side_at]
  have e : ∀ (g : ℕ) (hg : g < 8) (o : ℕ) (ho : o < 320), g * 320 + o = 640 * hh + l + k.val →
      (⟨g, hg⟩ : Fin 8) = ⟨(640 * hh + l + k.val) / 320, by omega⟩ ∧ (⟨o, ho⟩ : Fin 320) = ⟨(640 * hh + l + k.val) % 320, by omega⟩ :=
    fun g hg o ho h => ⟨Fin.ext (by show g = _ / 320; omega), Fin.ext (by show o = _ % 320; omega)⟩
  have hb : b.val = 0 ∨ b.val = 1 := by omega
  by_cases h1 : l + k.val < 320
  · obtain ⟨e1, e2⟩ := e (2 * hh) (by omega) (l + k.val) h1 (by omega)
    rw [dif_pos h1, dif_pos h1, outLo_at _ _ _ _ _ _ _ _ _ ha, outHi_at _ _ _ _ _ _ _ _ _ ha, ← e1, ← e2]
    rcases hb with hb | hb
    · rw [if_pos hb, hb]
    · rw [if_neg (by omega), hb]
  · obtain ⟨e1, e2⟩ := e (2 * hh + 1) (by omega) (l + k.val - 320) (by omega) (by omega)
    rw [dif_neg h1, dif_neg h1, outLo_at _ _ _ _ _ _ _ _ _ ha, outHi_at _ _ _ _ _ _ _ _ _ ha, ← e1, ← e2]
    rcases hb with hb | hb
    · rw [if_pos hb, hb]
    · rw [if_neg (by omega), hb]

end Cert.KernelIdeal.Hand

end
-- ==== Proof.Lists.lean ====
/-
  The run's lists of stores are the lists of `Stage`.
-/
import proofs.«01_k».proof.Proof.Stage

noncomputable section

namespace Cert.KernelIdeal.Hand

open Cert.KernelIdeal Cert.KernelIdeal.Gen
open Idealize.ShloMosaic Idealize.ShloMosaic.TcCoe

variable {F : FTy → Type} [FloatOps F]
variable (c : Dev nD) (fC : Bf (F := F) c stC) (fX : Bf (F := F) c stX) (fW : Bf (F := F) c hbW) (fS : Bf (F := F) c hbS) (gS : Bf (F := F) c scS)

set_option maxRecDepth 100000
set_option maxHeartbeats 0

theorem HP_5_eq : kernelRun.sl.HP_5 c fC fX fW fS gS = plane5 c fC fX fW fS gS 0 0 (by omega) (by omega) [] := rfl
theorem HP_10_eq : kernelRun.sl.HP_10 c fC fX fW fS gS = plane5 c fC fX fW fS gS 0 1 (by omega) (by omega) (kernelRun.sl.HP_5 c fC fX fW fS gS) := rfl
theorem HP_15_eq : kernelRun.sl.HP_15 c fC fX fW fS gS = plane5 c fC fX fW fS gS 1 0 (by omega) (by omega) (kernelRun.sl.HP_10 c fC fX fW fS gS) := rfl
theorem HP_20_eq : kernelRun.sl.HP_20 c fC fX fW fS gS = plane5 c fC fX fW fS gS 1 1 (by omega) (by omega) (kernelRun.sl.HP_15 c fC fX fW fS gS) := rfl
theorem HP_25_eq : kernelRun.sl.HP_25 c fC fX fW fS gS = plane5 c fC fX fW fS gS 2 0 (by omega) (by omega) (kernelRun.sl.HP_20 c fC fX fW fS gS) := rfl
theorem HP_30_eq : kernelRun.sl.HP_30 c fC fX fW fS gS = plane5 c fC fX fW fS gS 2 1 (by omega) (by omega) (kernelRun.sl.HP_25 c fC fX fW fS gS) := rfl
theorem HP_35_eq : kernelRun.sl.HP_35 c fC fX fW fS gS = plane5 c fC fX fW fS gS 3 0 (by omega) (by omega) (kernelRun.sl.HP_30 c fC fX fW fS gS) := rfl
theorem HP_40_eq : kernelRun.sl.HP_40 c fC fX fW fS gS = plane5 c fC fX fW fS gS 3 1 (by omega) (by omega) (kernelRun.sl.HP_35 c fC fX fW fS gS) := rfl

theorem HY_90_eq : kernelRun.sl.HY_90 c fC fX fW fS gS
    = rows9 (kernelRun.sl.HP_10 c fC fX fW fS gS) 0 1 (by omega) (by omega) (rows9 (kernelRun.sl.HP_5 c fC fX fW fS gS) 0 0 (by omega) (by omega) []) := rfl
theorem HY_180_eq : kernelRun.sl.HY_180 c fC fX fW fS gS
    = rows9 (kernelRun.sl.HP_20 c fC fX fW fS gS) 1 1 (by omega) (by omega) (rows9 (kernelRun.sl.HP_15 c fC fX fW fS gS) 1 0 (by omega) (by omega) (kernelRun.sl.HY_90 c fC fX fW fS gS)) := rfl
theorem HY_270_eq : kernelRun.sl.HY_270 c fC fX fW fS gS
    = rows9 (kernelRun.sl.HP_30 c fC fX fW fS gS) 2 1 (by omega) (by omega) (rows9 (kernelRun.sl.HP_25 c fC fX fW fS gS) 2 0 (by omega) (by omega) (kernelRun.sl.HY_180 c fC fX fW fS gS)) := rfl
theorem HY_360_eq : kernelRun.sl.HY_360 c fC fX fW fS gS
    = rows9 (kernelRun.sl.HP_40 c fC fX fW fS gS) 3 1 (by omega) (by omega) (rows9 (kernelRun.sl.HP_35 c fC fX fW fS gS) 3 0 (by omega) (by omega) (kernelRun.sl.HY_270 c fC fX fW fS gS)) := rfl

end Cert.KernelIdeal.Hand

end
-- ==== Proof.KernY.lean ====
/-
  What the kernel stores: the parity planes hold Winograd's outputs, every store of an image row holds the result's
  values, and the four copies out leave the whole result in its buffer.
-/
import proofs.«01_k».proof.Proof.KernAt
import proofs.«01_k».proof.Proof.Lists

noncomputable section

namespace Cert.KernelIdeal.Hand

open Cert.KernelIdeal Cert.KernelIdeal.Gen
open Idealize.ShloMosaic Idealize.ShloMosaic.TcCoe

section Canon
variable {s : Shape} {e : EltTy} {off size : Fin s.rank → ℕ}

/-- The last store at an index inside its rectangle. -/
theorem canon_hit (inb : ∀ a, off a + size a ≤ s.size a) (w : (Rect.unit off size inb).shape.Idx → Elt Ideal e)
    (L : List (View.Piece (Elt Ideal) s e)) (y : s.Idx) (x : (Rect.unit off size inb).shape.Idx)
    (hx : ∀ a, (y a).val = off a + (x a).val) :
    View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  rw [← hy]
  exact View.canon_cons_emb _ w L x

/-- The last store at an index outside its rectangle. -/
theorem canon_miss (inb : ∀ a, off a + size a ≤ s.size a) (w : (Rect.unit off size inb).shape.Idx → Elt Ideal e)
    (L : List (View.Piece (Elt Ideal) s e)) (y : s.Idx) (a : Fin s.rank)
    (ha : (y a).val < off a ∨ off a + size a ≤ (y a).val) :
    View.canon ((⟨Rect.unit off size inb, w⟩ : View.Piece (Elt Ideal) s e) :: L) y = View.canon L y := by
  refine View.canon_cons_of_not_mem _ L fun hm => ?_
  rw [Rect.mem_set_unit] at hm
  have hm' := hm a
  omega

end Canon

variable (c : Dev nD) (fC : Bf (F := Ideal) c stC) (fX : Bf (F := Ideal) c stX) (fW : Bf (F := Ideal) c hbW) (fS : Bf (F := Ideal) c hbS) (gS : Bf (F := Ideal) c scS)

/-- The plane of output row `a`, read at a column of lanes, a tile and a parity. -/
theorem plane5_at (hh a : ℕ) (hhh : hh < 4) (ha : a < 2) (L : List (View.Piece (Elt Ideal) S2x5x64x2x128 .bf16))
    (col : ℕ) (hcol : col < 5) (n : Fin 63) (b : Fin 2) (k : Fin 128) :
    View.canon (plane5 c fC fX fW fS gS hh a hhh ha L) (ix5 ⟨a, ha⟩ ⟨col, hcol⟩ ⟨n.val, by omega⟩ b k)
      = out c fC fX fW fS a b.val n ⟨(640 * hh + 128 * col + k.val) / 320, by omega⟩ ⟨(640 * hh + 128 * col + k.val) % 320, by omega⟩ := by
  have hx : ∀ (col : ℕ) (hcol : col < 5) (q : Fin 5), (ix5 (⟨a, ha⟩ : Fin 2) (⟨col, hcol⟩ : Fin 5) (⟨n.val, by omega⟩ : Fin 64) b k q).val
      = (![a, col, 0, 0, 0] : Fin 5 → ℕ) q + (ix5 (0 : Fin 1) (0 : Fin 1) (⟨n.val, by omega⟩ : Fin 64) b k q).val := by
    intro col hcol q
    fin_cases q
    · rfl
    · rfl
    · exact (Nat.zero_add _).symm
    · exact (Nat.zero_add _).symm
    · exact (Nat.zero_add _).symm
  unfold plane5
  interval_cases col
  · rw [canon_miss _ _ _ _ (1 : Fin 5) (Or.inl (by show 0 < 4; omega)), canon_miss _ _ _ _ (1 : Fin 5) (Or.inl (by show 0 < 3; omega)),
      canon_miss _ _ _ _ (1 : Fin 5) (Or.inl (by show 0 < 2; omega)), canon_miss _ _ _ _ (1 : Fin 5) (Or.inl (by show 0 < 1; omega))]
    refine (canon_hit _ _ _ _ (ix5 (0 : Fin 1) (0 : Fin 1) (⟨n.val, by omega⟩ : Fin 64) b k) (hx 0 (by omega))).trans ?_
    exact planeBlock_at _ _ _ _ _ _ hh a 0 hhh ha _ (by omega) n b k
  · rw [canon_miss _ _ _ _ (1 : Fin 5) (Or.inl (by show 1 < 4; omega)), canon_miss _ _ _ _ (1 : Fin 5) (Or.inl (by show 1 < 3; omega)),
      canon_miss _ _ _ _ (1 : Fin 5) (Or.inl (by show 1 < 2; omega))]
    refine (canon_hit _ _ _ _ (ix5 (0 : Fin 1) (0 : Fin 1) (⟨n.val, by omega⟩ : Fin 64) b k) (hx 1 (by omega))).trans ?_
    exact planeBlock_at _ _ _ _ _ _ hh a 128 hhh ha _ (by omega) n b k
  · rw [canon_miss _ _ _ _ (1 : Fin 5) (Or.inl (by show 2 < 4; omega)), canon_miss _ _ _ _ (1 : Fin 5) (Or.inl (by show 2 < 3; omega))]
    refine (canon_hit _ _ _ _ (ix5 (0 : Fin 1) (0 : Fin 1) (⟨n.val, by omega⟩ : Fin 64) b k) (hx 2 (by omega))).trans ?_
    exact planeBlock_at _ _ _ _ _ _ hh a 256 hhh ha _ (by omega) n b k
  · rw [canon_miss _ _ _ _ (1 : Fin 5) (Or.inl (by show 3 < 4; omega))]
    refine (canon_hit _ _ _ _ (ix5 (0 : Fin 1) (0 : Fin 1) (⟨n.val, by omega⟩ : Fin 64) b k) (hx 3 (by omega))).trans ?_
    exact planeBlock_at _ _ _ _ _ _ hh a 384 hhh ha _ (by omega) n b k
  · refine (canon_hit _ _ _ _ (ix5 (0 : Fin 1) (0 : Fin 1) (⟨n.val, by omega⟩ : Fin 64) b k) (hx 4 (by omega))).trans ?_
    exact planeBlock_at _ _ _ _ _ _ hh a 512 hhh ha _ (by omega) n b k

/-- The result as one function of a row, a column and a channel. -/
def G (y : S18x14x2560.Idx) : EReal := Cert.Winograd.Y (aC c fC) (aX c fX) (aW c fW) (aS c fS) (y 0) (y 1) (y 2)

/-- A store holds the result's values where it stores them. -/
def Agrees (p : View.Piece (Elt Ideal) S18x14x2560 .bf16) : Prop := ∀ x : p.1.shape.Idx, p.2 x = G c fC fX fW fS (p.1.emb x)

theorem Y_congr (C X W S) {h h' : Fin 18} {w w' : Fin 14} {o o' : Fin 2560} (e1 : h = h') (e2 : w = w') (e3 : o = o') :
    Cert.Winograd.Y C X W S h w o = Cert.Winograd.Y C X W S h' w' o' := by rw [e1, e2, e3]

theorem row_agrees (hh a r col : ℕ) (hhh : hh < 4) (ha : a < 2) (hr : r < 9) (hcol : col < 5) (L : List (View.Piece (Elt Ideal) S2x5x64x2x128 .bf16)) :
    Agrees c fC fX fW fS (rowPiece (plane5 c fC fX fW fS gS hh a hhh ha L) hh a r col hhh ha hr hcol) := by
  intro x
  obtain ⟨x0, x1, x2, rfl⟩ : ∃ (x0 : Fin 1) (x1 : Fin 14) (x2 : Fin 128), x = ix3 x0 x1 x2 :=
    ⟨x 0, x 1, x 2, funext fun q => by fin_cases q <;> rfl⟩
  obtain rfl : x0 = 0 := Subsingleton.elim _ _
  unfold rowPiece
  show tileRow (F := Ideal) _ (ix3 0 x1 x2) = _
  rw [tileRow_at, View.readCov_eq_canon']
  have e : (Rect.unit (s := S2x5x64x2x128) ![a, col, 7 * r, 0, 0] S1x1x7x2x128.size (by intro b; fin_cases b <;> simp <;> omega)).toLoadRect.idx
      (ix5 (0 : Fin 1) (0 : Fin 1) (⟨x1.val / 2, by omega⟩ : Fin 7) (⟨x1.val % 2, by omega⟩ : Fin 2) x2)
      = ix5 ⟨a, ha⟩ ⟨col, hcol⟩ ⟨(⟨7 * r + x1.val / 2, by omega⟩ : Fin 63).val, by show 7 * r + x1.val / 2 < 64; omega⟩ ⟨x1.val % 2, by omega⟩ x2 := by
    funext q
    apply Fin.ext
    fin_cases q
    · show a + 1 * 0 = a; omega
    · show col + 1 * 0 = col; omega
    · show 7 * r + 1 * (x1.val / 2) = 7 * r + x1.val / 2; omega
    · show 0 + 1 * (x1.val % 2) = x1.val % 2; omega
    · show 0 + 1 * x2.val = x2.val; omega
  show View.canon _ _ = _
  rw [e, plane5_at]
  unfold G
  refine Eq.trans ?_ (Y_congr _ _ _ _ (h := ⟨2 * r + a, by omega⟩) (w := x1) (o := ⟨640 * hh + 128 * col + x2.val, by omega⟩)
    (Fin.ext (by show 2 * r + a = 2 * r + a + 1 * 0; omega)) (Fin.ext (by show x1.val = 0 + 1 * x1.val; omega))
    (Fin.ext (by show 640 * hh + 128 * col + x2.val = 640 * hh + 128 * col + 1 * x2.val; omega)))
  unfold out Cert.Winograd.Y
  have e1 : (2 * r + a) % 2 = a := by omega
  have e2 : (2 * r + a) / 2 * 7 + x1.val / 2 = 7 * r + x1.val / 2 := by omega
  show Cert.Winograd.At a _ = Cert.Winograd.At ((2 * r + a) % 2) _
  rw [e1]
  congr 1
  funext i
  congr 1
  funext j
  congr 1
  exact Fin.ext e2.symm

theorem row5_mem (H : List (View.Piece (Elt Ideal) S2x5x64x2x128 .bf16)) (hh a r : ℕ) (h1 : hh < 4) (h2 : a < 2) (h3 : r < 9)
    (L : List (View.Piece (Elt Ideal) S18x14x2560 .bf16)) (col : ℕ) (h4 : col < 5) :
    rowPiece H hh a r col h1 h2 h3 h4 ∈ row5 H hh a r h1 h2 h3 L := by
  unfold row5
  interval_cases col
  · exact .tail _ (.tail _ (.tail _ (.tail _ (.head _))))
  · exact .tail _ (.tail _ (.tail _ (.head _)))
  · exact .tail _ (.tail _ (.head _))
  · exact .tail _ (.head _)
  · exact .head _

theorem row5_tail (H : List (View.Piece (Elt Ideal) S2x5x64x2x128 .bf16)) (hh a r : ℕ) (h1 : hh < 4) (h2 : a < 2) (h3 : r < 9)
    {L : List (View.Piece (Elt Ideal) S18x14x2560 .bf16)} {p : View.Piece (Elt Ideal) S18x14x2560 .bf16} (hp : p ∈ L) :
    p ∈ row5 H hh a r h1 h2 h3 L := .tail _ (.tail _ (.tail _ (.tail _ (.tail _ hp))))

theorem row5_all (H : List (View.Piece (Elt Ideal) S2x5x64x2x128 .bf16)) (hh a r : ℕ) (h1 : hh < 4) (h2 : a < 2) (h3 : r < 9)
    {L : List (View.Piece (Elt Ideal) S18x14x2560 .bf16)} {P : View.Piece (Elt Ideal) S18x14x2560 .bf16 → Prop}
    (hP : ∀ (r col : ℕ) (h3 : r < 9) (h4 : col < 5), P (rowPiece H hh a r col h1 h2 h3 h4)) (hL : ∀ p ∈ L, P p) :
    ∀ p ∈ row5 H hh a r h1 h2 h3 L, P p := by
  unfold row5
  intro p hp
  rcases List.mem_cons.mp hp with rfl | hp
  · exact hP _ _ _ _
  rcases List.mem_cons.mp hp with rfl | hp
  · exact hP _ _ _ _
  rcases List.mem_cons.mp hp with rfl | hp
  · exact hP _ _ _ _
  rcases List.mem_cons.mp hp with rfl | hp
  · exact hP _ _ _ _
  rcases List.mem_cons.mp hp with rfl | hp
  · exact hP _ _ _ _
  exact hL p hp

theorem rows9_mem (H : List (View.Piece (Elt Ideal) S2x5x64x2x128 .bf16)) (hh a : ℕ) (h1 : hh < 4) (h2 : a < 2)
    (L : List (View.Piece (Elt Ideal) S18x14x2560 .bf16)) (r col : ℕ) (h3 : r < 9) (h4 : col < 5) :
    rowPiece H hh a r col h1 h2 h3 h4 ∈ rows9 H hh a h1 h2 L := by
  unfold rows9
  have t : ∀ (r : ℕ) (h3 : r < 9) {L : List (View.Piece (Elt Ideal) S18x14x2560 .bf16)} {p}, p ∈ L → p ∈ row5 H hh a r h1 h2 h3 L :=
    fun r h3 => row5_tail H hh a r h1 h2 h3
  have m : ∀ (r : ℕ) (h3 : r < 9) (L : List (View.Piece (Elt Ideal) S18x14x2560 .bf16)), rowPiece H hh a r col h1 h2 h3 h4 ∈ row5 H hh a r h1 h2 h3 L :=
    fun r h3 L => row5_mem H hh a r h1 h2 h3 L col h4
  interval_cases r
  · exact t 8 _ (t 7 _ (t 6 _ (t 5 _ (t 4 _ (t 3 _ (t 2 _ (t 1 _ (m 0 _ _))))))))
  · exact t 8 _ (t 7 _ (t 6 _ (t 5 _ (t 4 _ (t 3 _ (t 2 _ (m 1 _ _)))))))
  · exact t 8 _ (t 7 _ (t 6 _ (t 5 _ (t 4 _ (t 3 _ (m 2 _ _))))))
  · exact t 8 _ (t 7 _ (t 6 _ (t 5 _ (t 4 _ (m 3 _ _)))))
  · exact t 8 _ (t 7 _ (t 6 _ (t 5 _ (m 4 _ _))))
  · exact t 8 _ (t 7 _ (t 6 _ (m 5 _ _)))
  · exact t 8 _ (t 7 _ (m 6 _ _))
  · exact t 8 _ (m 7 _ _)
  · exact m 8 _ _

theorem rows9_tail (H : List (View.Piece (Elt Ideal) S2x5x64x2x128 .bf16)) (hh a : ℕ) (h1 : hh < 4) (h2 : a < 2)
    {L : List (View.Piece (Elt Ideal) S18x14x2560 .bf16)} {p : View.Piece (Elt Ideal) S18x14x2560 .bf16} (hp : p ∈ L) :
    p ∈ rows9 H hh a h1 h2 L := by
  unfold rows9
  iterate 9 apply row5_tail
  exact hp

theorem rows9_all (H : List (View.Piece (Elt Ideal) S2x5x64x2x128 .bf16)) (hh a : ℕ) (h1 : hh < 4) (h2 : a < 2)
    {L : List (View.Piece (Elt Ideal) S18x14x2560 .bf16)} {P : View.Piece (Elt Ideal) S18x14x2560 .bf16 → Prop}
    (hP : ∀ (r col : ℕ) (h3 : r < 9) (h4 : col < 5), P (rowPiece H hh a r col h1 h2 h3 h4)) (hL : ∀ p ∈ L, P p) :
    ∀ p ∈ rows9 H hh a h1 h2 L, P p := by
  unfold rows9
  iterate 9 refine row5_all H hh a _ h1 h2 _ hP ?_
  exact hL

/-- After the stores of one pair of groups, the buffer holds the result at that pair's channels. -/
theorem window_at (hh : ℕ) (hhh : hh < 4) (L0 L1 : List (View.Piece (Elt Ideal) S2x5x64x2x128 .bf16)) (L : List (View.Piece (Elt Ideal) S18x14x2560 .bf16))
    (hL : ∀ p ∈ L, Agrees c fC fX fW fS p) (gY : Bf (F := Ideal) c scY) (h : Fin 18) (x : Fin 14) (k : Fin 640) :
    scY.view.read (Elt Ideal) (scY.view.writes (Elt Ideal) gY
        (rows9 (plane5 c fC fX fW fS gS hh 1 hhh (by omega) L1) hh 1 hhh (by omega)
          (rows9 (plane5 c fC fX fW fS gS hh 0 hhh (by omega) L0) hh 0 hhh (by omega) L)))
      (ix3 h x ⟨640 * hh + k.val, by omega⟩) = G c fC fX fW fS (ix3 h x ⟨640 * hh + k.val, by omega⟩) := by
  have hmem : ∀ (a : ℕ) (ha : a < 2) (H), h.val % 2 = a →
      (ix3 h x ⟨640 * hh + k.val, by omega⟩ : S18x14x2560.Idx) ∈ (rowPiece (F := Ideal) H hh a (h.val / 2) (k.val / 128) hhh ha (by omega) (by omega)).1.set := by
    intro a ha H e
    unfold rowPiece
    rw [Rect.mem_set_unit]
    intro q
    fin_cases q
    · show 2 * (h.val / 2) + a ≤ h.val ∧ h.val < 2 * (h.val / 2) + a + 1; omega
    · show 0 ≤ x.val ∧ x.val < 0 + 14; omega
    · show 640 * hh + 128 * (k.val / 128) ≤ 640 * hh + k.val ∧ 640 * hh + k.val < 640 * hh + 128 * (k.val / 128) + 128; omega
  have hex : ∃ p ∈ (rows9 (plane5 c fC fX fW fS gS hh 1 hhh (by omega) L1) hh 1 hhh (by omega)
      (rows9 (plane5 c fC fX fW fS gS hh 0 hhh (by omega) L0) hh 0 hhh (by omega) L)),
      (ix3 h x ⟨640 * hh + k.val, by omega⟩ : S18x14x2560.Idx) ∈ p.1.set := by
    rcases Nat.mod_two_eq_zero_or_one h.val with e | e
    · exact ⟨_, rows9_tail _ _ _ _ _ (rows9_mem _ _ _ _ _ _ _ _ _ _), hmem 0 (by omega) _ e⟩
    · exact ⟨_, rows9_mem _ _ _ _ _ _ _ _ _ _, hmem 1 (by omega) _ e⟩
  rw [View.read_writes_apply_eq_canon _ _ _ _ hex]
  refine View.canon_apply_of_pieces (G c fC fX fW fS) _ ?_ _ hex
  exact rows9_all _ _ _ _ _ (fun r col h3 h4 => row_agrees _ _ _ _ _ _ _ _ _ _ _ _ _ _ _)
    (rows9_all _ _ _ _ _ (fun r col h3 h4 => row_agrees _ _ _ _ _ _ _ _ _ _ _ _ _ _ _) hL)

end Cert.KernelIdeal.Hand

end
-- ==== Proof.KernR.lean ====
/-
  What the kernel leaves in its result: the four copies out carry the four pairs of groups, side by side.
-/
import proofs.«01_k».proof.Proof.KernY

noncomputable section

namespace Cert.KernelIdeal.Hand

open Cert.KernelIdeal Cert.KernelIdeal.Gen
open Idealize.ShloMosaic Idealize.ShloMosaic.TcCoe

/-- Dropping the leading unit axis, as an index. -/
theorem drop_unit (hc : S1x18x14x640.ShapeCasts S18x14x640) (h : Fin 18) (x : Fin 14) (k : Fin 640) :
    shapeCast S18x14x640 (fun i : S1x18x14x640.Idx => i) hc (ix3 h x k) = ix4 0 h x k := by
  pointwise

/-- Where a copy's window puts an index in the result. -/
theorem win_emb (l : ℕ) (hl : l + 640 ≤ 2560) (inb : ∀ a, (![0, 0, 0, l] : Fin 4 → ℕ) a + S1x18x14x640.size a ≤ S1x18x14x2560.size a)
    (p : ∀ a, (Rect.unit (s := S1x18x14x2560) ![0, 0, 0, l] S1x18x14x640.size inb).stride a = 1) (q : S1x18x14x640.Squeezes S18x14x640)
    (hc : S1x18x14x640.ShapeCasts S18x14x640) (h : Fin 18) (x : Fin 14) (k : Fin 640) :
    (((hbY : Memref sig .tc _ _ _).slice (Rect.unit (s := S1x18x14x2560) ![0, 0, 0, l] S1x18x14x640.size inb) p).squeeze S18x14x640 q).view.emb (ix3 h x k)
      = ix4 0 h x ⟨l + k.val, by omega⟩ := by
  have e : (((hbY : Memref sig .tc _ _ _).slice (Rect.unit (s := S1x18x14x2560) ![0, 0, 0, l] S1x18x14x640.size inb) p).squeeze S18x14x640 q).view.emb (ix3 h x k)
      = (Rect.unit (s := S1x18x14x2560) ![0, 0, 0, l] S1x18x14x640.size inb).emb (shapeCast S18x14x640 (fun i : S1x18x14x640.Idx => i) hc (ix3 h x k)) := rfl
  rw [e, drop_unit]
  funext a
  apply Fin.ext
  fin_cases a
  · rfl
  · show 0 + 1 * h.val = h.val; omega
  · show 0 + 1 * x.val = x.val; omega
  · show l + 1 * k.val = l + k.val; omega

variable (c : Dev nD)

/-- A copy through a window, at an index of the window. -/
theorem write_hit (l : ℕ) (hl : l + 640 ≤ 2560) (inb) (p) (q : S1x18x14x640.Squeezes S18x14x640)
    (f : Bf (F := Ideal) c hbY) (w : Vec Ideal S18x14x640 .bf16) (h : Fin 18) (x : Fin 14) (o : Fin 2560) (ho : l ≤ o.val ∧ o.val < l + 640) :
    View.write (Elt Ideal) (((hbY : Memref sig .tc _ _ _).slice (Rect.unit (s := S1x18x14x2560) ![0, 0, 0, l] S1x18x14x640.size inb) p).squeeze S18x14x640 q).view
      f w Finset.univ (ix4 0 h x o) = w (ix3 h x ⟨o.val - l, by omega⟩) := by
  have e := win_emb l hl inb p q q.numel_eq h x ⟨o.val - l, by omega⟩
  have e' : (ix4 0 h x ⟨l + (o.val - l), by omega⟩ : S1x18x14x2560.Idx) = ix4 0 h x o := by
    congr 1; exact Fin.ext (by show l + (o.val - l) = o.val; omega)
  rw [← e', ← e]
  exact View.write_emb_of_mem _ w (Finset.mem_univ _)

/-- A copy through a window leaves everything outside it. -/
theorem write_miss (l : ℕ) (hl : l + 640 ≤ 2560) (inb) (p) (q : S1x18x14x640.Squeezes S18x14x640)
    (f : Bf (F := Ideal) c hbY) (w : Vec Ideal S18x14x640 .bf16) (h : Fin 18) (x : Fin 14) (o : Fin 2560) (ho : o.val < l ∨ l + 640 ≤ o.val) :
    View.write (Elt Ideal) (((hbY : Memref sig .tc _ _ _).slice (Rect.unit (s := S1x18x14x2560) ![0, 0, 0, l] S1x18x14x640.size inb) p).squeeze S18x14x640 q).view
      f w Finset.univ (ix4 0 h x o) = f (ix4 0 h x o) := by
  refine View.write_of_not_mem _ w _ fun hm => ?_
  obtain ⟨j, -, hj⟩ := Finset.mem_map.mp hm
  obtain ⟨j0, j1, j2, rfl⟩ : ∃ (j0 : Fin 18) (j1 : Fin 14) (j2 : Fin 640), j = ix3 j0 j1 j2 :=
    ⟨j 0, j 1, j 2, funext fun q => by fin_cases q <;> rfl⟩
  have e := win_emb l hl inb p q q.numel_eq j0 j1 j2
  have h3 : l + j2.val = o.val := congrArg (fun y : S1x18x14x2560.Idx => (y 3).val) (e.symm.trans hj)
  omega

variable (fC : Bf (F := Ideal) c stC) (fX : Bf (F := Ideal) c stX) (fW : Bf (F := Ideal) c hbW) (fS : Bf (F := Ideal) c hbS)
  (gW : Bf (F := Ideal) c scW) (gS : Bf (F := Ideal) c scS) (gP : Bf (F := Ideal) c scP) (gY : Bf (F := Ideal) c scY) (fY : Bf (F := Ideal) c hbY)

theorem agrees_90 : ∀ p ∈ kernelRun.sl.HY_90 c fC fX fW fS gS, Agrees c fC fX fW fS p := by
  rw [HY_90_eq, HP_10_eq, HP_5_eq]
  exact rows9_all _ _ _ _ _ (fun r col h3 h4 => row_agrees _ _ _ _ _ _ _ _ _ _ _ _ _ _ _)
    (rows9_all _ _ _ _ _ (fun r col h3 h4 => row_agrees _ _ _ _ _ _ _ _ _ _ _ _ _ _ _) (fun p hp => absurd hp List.not_mem_nil))
theorem agrees_180 : ∀ p ∈ kernelRun.sl.HY_180 c fC fX fW fS gS, Agrees c fC fX fW fS p := by
  rw [HY_180_eq, HP_20_eq, HP_15_eq]
  exact rows9_all _ _ _ _ _ (fun r col h3 h4 => row_agrees _ _ _ _ _ _ _ _ _ _ _ _ _ _ _)
    (rows9_all _ _ _ _ _ (fun r col h3 h4 => row_agrees _ _ _ _ _ _ _ _ _ _ _ _ _ _ _) (agrees_90 c fC fX fW fS gS))
theorem agrees_270 : ∀ p ∈ kernelRun.sl.HY_270 c fC fX fW fS gS, Agrees c fC fX fW fS p := by
  rw [HY_270_eq, HP_30_eq, HP_25_eq]
  exact rows9_all _ _ _ _ _ (fun r col h3 h4 => row_agrees _ _ _ _ _ _ _ _ _ _ _ _ _ _ _)
    (rows9_all _ _ _ _ _ (fun r col h3 h4 => row_agrees _ _ _ _ _ _ _ _ _ _ _ _ _ _ _) (agrees_180 c fC fX fW fS gS))

/-- A read of a window of the scratch result is a read of the scratch result. -/
theorem slice_at (l : ℕ) (hl : l + 640 ≤ 2560) (inb) (p) (f : Bf (F := Ideal) c scY) (h : Fin 18) (x : Fin 14) (k : Fin 640) :
    ReadAs.same.apply (View.read (Elt Ideal) ((scY : Memref sig .tc _ _ _).slice (Rect.unit (s := S18x14x2560) ![0, 0, l] S18x14x640.size inb) p).view f) (ix3 h x k)
      = scY.view.read (Elt Ideal) f (ix3 h x ⟨l + k.val, by omega⟩) := by
  show scY.view.read (Elt Ideal) f _ = _
  congr 1
  funext a
  apply Fin.ext
  fin_cases a
  · show 0 + 1 * h.val = h.val; omega
  · show 0 + 1 * x.val = x.val; omega
  · show l + 1 * k.val = l + k.val; omega

theorem inbS (l : ℕ) (hl : l + 640 ≤ 2560) : ∀ a, (![0, 0, l] : Fin 3 → ℕ) a + S18x14x640.size a ≤ S18x14x2560.size a := by
  intro b; fin_cases b <;> simp <;> omega

/-- What a copy out of 640 channels from `l` carries, after the stores `L`. -/
def carried (l : ℕ) (hl : l + 640 ≤ 2560) (L : List (View.Piece (Elt Ideal) S18x14x2560 .bf16)) : Vec Ideal S18x14x640 .bf16 :=
  ReadAs.same.apply (View.read (Elt Ideal) ((scY : Memref sig .tc _ _ _).slice (Rect.unit (s := S18x14x2560) ![0, 0, l] S18x14x640.size (inbS l hl)) (fun _ => rfl)).view
    (scY.view.writes (Elt Ideal) gY L))

theorem dma418_eq : kernelRun.sl.dma418 c fC fX fW fS gS gY = carried c gY 0 (by omega) (kernelRun.sl.HY_90 c fC fX fW fS gS) := rfl
theorem dma836_eq : kernelRun.sl.dma836 c fC fX fW fS gS gY = carried c gY 640 (by omega) (kernelRun.sl.HY_180 c fC fX fW fS gS) := rfl
theorem dma1254_eq : kernelRun.sl.dma1254 c fC fX fW fS gS gY = carried c gY 1280 (by omega) (kernelRun.sl.HY_270 c fC fX fW fS gS) := rfl
theorem dma1672_eq : kernelRun.sl.dma1672 c fC fX fW fS gS gY = carried c gY 1920 (by omega) (kernelRun.sl.HY_360 c fC fX fW fS gS) := rfl

theorem dma0_at (h : Fin 18) (x : Fin 14) (k : Fin 640) :
    kernelRun.sl.dma418 c fC fX fW fS gS gY (ix3 h x k) = G c fC fX fW fS (ix3 h x ⟨640 * 0 + k.val, by omega⟩) := by
  rw [dma418_eq]
  unfold carried
  rw [slice_at c 0 (by omega)]
  rw [HY_90_eq, HP_10_eq, HP_5_eq]
  exact window_at c fC fX fW fS gS 0 (by omega) _ _ [] (fun p hp => absurd hp List.not_mem_nil) gY h x k
theorem dma1_at (h : Fin 18) (x : Fin 14) (k : Fin 640) :
    kernelRun.sl.dma836 c fC fX fW fS gS gY (ix3 h x k) = G c fC fX fW fS (ix3 h x ⟨640 * 1 + k.val, by omega⟩) := by
  rw [dma836_eq]
  unfold carried
  rw [slice_at c 640 (by omega)]
  rw [HY_180_eq, HP_20_eq, HP_15_eq]
  exact window_at c fC fX fW fS gS 1 (by omega) _ _ _ (agrees_90 c fC fX fW fS gS) gY h x k
theorem dma2_at (h : Fin 18) (x : Fin 14) (k : Fin 640) :
    kernelRun.sl.dma1254 c fC fX fW fS gS gY (ix3 h x k) = G c fC fX fW fS (ix3 h x ⟨640 * 2 + k.val, by omega⟩) := by
  rw [dma1254_eq]
  unfold carried
  rw [slice_at c 1280 (by omega)]
  rw [HY_270_eq, HP_30_eq, HP_25_eq]
  exact window_at c fC fX fW fS gS 2 (by omega) _ _ _ (agrees_180 c fC fX fW fS gS) gY h x k
theorem dma3_at (h : Fin 18) (x : Fin 14) (k : Fin 640) :
    kernelRun.sl.dma1672 c fC fX fW fS gS gY (ix3 h x k) = G c fC fX fW fS (ix3 h x ⟨640 * 3 + k.val, by omega⟩) := by
  rw [dma1672_eq]
  unfold carried
  rw [slice_at c 1920 (by omega)]
  rw [HY_360_eq, HP_40_eq, HP_35_eq]
  exact window_at c fC fX fW fS gS 3 (by omega) _ _ _ (agrees_270 c fC fX fW fS gS) gY h x k

theorem inbY (l : ℕ) (hl : l + 640 ≤ 2560) : ∀ a, (![0, 0, 0, l] : Fin 4 → ℕ) a + S1x18x14x640.size a ≤ S1x18x14x2560.size a := by
  intro b; fin_cases b <;> simp <;> omega

/-- The result after a copy out of 640 channels from `l`. -/
def copied (f : Bf (F := Ideal) c hbY) (l : ℕ) (hl : l + 640 ≤ 2560) (w : Vec Ideal S18x14x640 .bf16) : Bf (F := Ideal) c hbY :=
  View.write (Elt Ideal) (((hbY : Memref sig .tc _ _ _).slice (Rect.unit (s := S1x18x14x2560) ![0, 0, 0, l] S1x18x14x640.size
    (inbY l hl)) (fun _ => rfl)).squeeze S18x14x640 squeezes_S1x18x14x640_S18x14x640).view f w Finset.univ

theorem result_eq : (kernelRun (F := Ideal) c fC fX fW fS gW gS gP gY fY).1
    = copied c (copied c (copied c (copied c fY 0 (by omega) (kernelRun.sl.dma418 c fC fX fW fS gS gY)) 640 (by omega) (kernelRun.sl.dma836 c fC fX fW fS gS gY))
        1280 (by omega) (kernelRun.sl.dma1254 c fC fX fW fS gS gY)) 1920 (by omega) (kernelRun.sl.dma1672 c fC fX fW fS gS gY) := rfl

theorem G_congr {h : Fin 18} {x : Fin 14} {o o' : Fin 2560} (e : o = o') : G c fC fX fW fS (ix3 h x o) = G c fC fX fW fS (ix3 h x o') := by rw [e]

/-- The result at an index. -/
theorem result_at (h : Fin 18) (x : Fin 14) (o : Fin 2560) :
    (kernelRun (F := Ideal) c fC fX fW fS gW gS gP gY fY).1 (ix4 0 h x o) = G c fC fX fW fS (ix3 h x o) := by
  rw [result_eq]
  by_cases h3 : 1920 ≤ o.val
  · refine (write_hit c 1920 (by omega) _ _ _ _ _ h x o ⟨h3, by omega⟩).trans ((dma3_at c fC fX fW fS gS gY h x _).trans (G_congr _ _ _ _ _ (Fin.ext ?_)))
    show 640 * 3 + (o.val - 1920) = o.val; omega
  refine (write_miss c 1920 (by omega) _ _ _ _ _ h x o (Or.inl (by omega))).trans ?_
  by_cases h2 : 1280 ≤ o.val
  · refine (write_hit c 1280 (by omega) _ _ _ _ _ h x o ⟨h2, by omega⟩).trans ((dma2_at c fC fX fW fS gS gY h x _).trans (G_congr _ _ _ _ _ (Fin.ext ?_)))
    show 640 * 2 + (o.val - 1280) = o.val; omega
  refine (write_miss c 1280 (by omega) _ _ _ _ _ h x o (Or.inl (by omega))).trans ?_
  by_cases h1 : 640 ≤ o.val
  · refine (write_hit c 640 (by omega) _ _ _ _ _ h x o ⟨h1, by omega⟩).trans ((dma1_at c fC fX fW fS gS gY h x _).trans (G_congr _ _ _ _ _ (Fin.ext ?_)))
    show 640 * 1 + (o.val - 640) = o.val; omega
  refine (write_miss c 640 (by omega) _ _ _ _ _ h x o (Or.inl (by omega))).trans ?_
  refine (write_hit c 0 (by omega) _ _ _ _ _ h x o ⟨Nat.zero_le _, by omega⟩).trans ((dma0_at c fC fX fW fS gS gY h x _).trans (G_congr _ _ _ _ _ (Fin.ext ?_)))
  show 640 * 0 + (o.val - 0) = o.val; omega

end Cert.KernelIdeal.Hand

end
-- ==== Proof.RefRun.lean ====
/-
  The reference's run, read: its result after the run is one function of the arguments.
-/
import proofs.«01_k».proof.Proof.Gen.ReferenceIdeal.Frame
import Idealize.ShloMosaic.Lib.Pipeline.Value

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## At the one grid point every window's block is its array -/

theorem hz0 : (![0, 0, 0] : Fin 3 → Nat) = fun _ => 0 := funext fun a => by fin_cases a <;> rfl
/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)
/-- An index of window 0's block is the same index of its array. -/
theorem emb0 (t : Fin cfg0.N) (j : S16x64x1280.Idx) : ((cfg0.win 0).blk t).view.emb j = j := by
  obtain ⟨e0, e1, e2⟩ := idx_zero0 t
  funext a; apply Fin.ext
  match a with
  | ⟨0, _⟩ => show win0_0.index t (0 : Fin 3) * 16 + 1 * (j 0).val = (j 0).val; omega
  | ⟨1, _⟩ => show win0_0.index t (1 : Fin 3) * 64 + 1 * (j 1).val = (j 1).val; omega
  | ⟨2, _⟩ => show win0_0.index t (2 : Fin 3) * 1280 + 1 * (j 2).val = (j 2).val; omega
/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]
/-- After the run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem hz1 : (![0, 0, 0] : Fin 3 → Nat) = fun _ => 0 := funext fun a => by fin_cases a <;> rfl
/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)
/-- An index of window 1's block is the same index of its array. -/
theorem emb1 (t : Fin cfg0.N) (j : S16x64x128.Idx) : ((cfg0.win 1).blk t).view.emb j = j := by
  obtain ⟨e0, e1, e2⟩ := idx_zero1 t
  funext a; apply Fin.ext
  match a with
  | ⟨0, _⟩ => show win0_1.index t (0 : Fin 3) * 16 + 1 * (j 0).val = (j 0).val; omega
  | ⟨1, _⟩ => show win0_1.index t (1 : Fin 3) * 64 + 1 * (j 1).val = (j 1).val; omega
  | ⟨2, _⟩ => show win0_1.index t (2 : Fin 3) * 128 + 1 * (j 2).val = (j 2).val; omega
/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]
/-- After the run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem hz2 : (![0, 0, 0, 0] : Fin 4 → Nat) = fun _ => 0 := funext fun a => by fin_cases a <;> rfl
/-- Window 2's block index at the one point is zero on every axis. -/
theorem idx_zero2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)
/-- An index of window 2's block is the same index of its array. -/
theorem emb2 (t : Fin cfg0.N) (j : S16x8x160x320.Idx) : ((cfg0.win 2).blk t).view.emb j = j := by
  obtain ⟨e0, e1, e2, e3⟩ := idx_zero2 t
  funext a; apply Fin.ext
  match a with
  | ⟨0, _⟩ => show win0_2.index t (0 : Fin 4) * 16 + 1 * (j 0).val = (j 0).val; omega
  | ⟨1, _⟩ => show win0_2.index t (1 : Fin 4) * 8 + 1 * (j 1).val = (j 1).val; omega
  | ⟨2, _⟩ => show win0_2.index t (2 : Fin 4) * 160 + 1 * (j 2).val = (j 2).val; omega
  | ⟨3, _⟩ => show win0_2.index t (3 : Fin 4) * 320 + 1 * (j 3).val = (j 3).val; omega
/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]
/-- After the run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem hz3 : (![0, 0, 0] : Fin 3 → Nat) = fun _ => 0 := funext fun a => by fin_cases a <;> rfl
/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)
/-- An index of window 3's block is the same index of its array. -/
theorem emb3 (t : Fin cfg0.N) (j : S16x8x320.Idx) : ((cfg0.win 3).blk t).view.emb j = j := by
  obtain ⟨e0, e1, e2⟩ := idx_zero3 t
  funext a; apply Fin.ext
  match a with
  | ⟨0, _⟩ => show win0_3.index t (0 : Fin 3) * 16 + 1 * (j 0).val = (j 0).val; omega
  | ⟨1, _⟩ => show win0_3.index t (1 : Fin 3) * 8 + 1 * (j 1).val = (j 1).val; omega
  | ⟨2, _⟩ => show win0_3.index t (2 : Fin 3) * 320 + 1 * (j 2).val = (j 2).val; omega
/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]
/-- After the run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem hz4 : (![0, 0, 0, 0] : Fin 4 → Nat) = fun _ => 0 := funext fun a => by fin_cases a <;> rfl
/-- Window 4's block index at the one point is zero on every axis. -/
theorem idx_zero4 : ∀ t : Fin cfg0.N, win0_4.index t (0 : Fin 4) = 0 ∧ win0_4.index t (1 : Fin 4) = 0 ∧ win0_4.index t (2 : Fin 4) = 0 ∧ win0_4.index t (3 : Fin 4) = 0 :=
  (by decide +kernel : ∀ t : Fin grid0.N, _)
/-- An index of window 4's block is the same index of its array. -/
theorem emb4 (t : Fin cfg0.N) (j : S1x18x14x2560.Idx) : ((cfg0.win 4).blk t).view.emb j = j := by
  obtain ⟨e0, e1, e2, e3⟩ := idx_zero4 t
  funext a; apply Fin.ext
  match a with
  | ⟨0, _⟩ => show win0_4.index t (0 : Fin 4) * 1 + 1 * (j 0).val = (j 0).val; omega
  | ⟨1, _⟩ => show win0_4.index t (1 : Fin 4) * 18 + 1 * (j 1).val = (j 1).val; omega
  | ⟨2, _⟩ => show win0_4.index t (2 : Fin 4) * 14 + 1 * (j 2).val = (j 2).val; omega
  | ⟨3, _⟩ => show win0_4.index t (3 : Fin 4) * 2560 + 1 * (j 3).val = (j 3).val; omega

/-! ## The result's array after the run -/

/-- What the result ends holding. -/
abbrev G4 (a0 : Vec F S16x64x1280 .fp8e4m3) (a1 : Vec F S16x64x128 .f32) (a2 : Vec F S16x8x160x320 .fp8e4m3) (a3 : Vec F S16x8x320 .f32) : Vec F S1x18x14x2560 .bf16 :=
  k0_pay1 (k0_pay5 a0 a1 a2 a3) (k0_pay6 a0 a1 a2 a3) (k0_pay7 a0 a1 a2 a3) (k0_pay8 a0 a1 a2 a3)
/-- A load of the whole of a block reads the block, and the one store through the whole rectangle leaves its payload. -/
theorem out4_eq (a0 : Vec F S16x64x1280 .fp8e4m3) (a1 : Vec F S16x64x128 .f32) (a2 : Vec F S16x8x160x320 .fp8e4m3) (a3 : Vec F S16x8x320 .f32) : out0_4 (F := F) a0 a1 a2 a3 = G4 a0 a1 a2 a3 := by
  unfold out0_4
  rw [View.canon_unit_zero hz4, View.ld_unit_zero (S := S16x64x1280) hz0 _ a0, View.ld_unit_zero (S := S16x64x128) hz1 _ a1, View.ld_unit_zero (S := S16x8x160x320) hz2 _ a2, View.ld_unit_zero (S := S16x8x320) hz3 _ a3]
/-- Cutting the point's block out of `X` and reading `X` through the block's view give the same. -/
theorem cut4_eq (t : Fin cfg0.N) (X : Vec F S1x18x14x2560 .bf16) :
    (cfg0.win 4).cut (grid0.coords t) X = ((cfg0.win 4).blk t).view.read (Elt F) X := by
  funext j
  show X j = X (((cfg0.win 4).blk t).view.emb j)
  rw [emb4]
/-- What the point writes back is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _
/-- Every index of the array is in the point's block. -/
theorem covered4 (i : S1x18x14x2560.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩
/-- The array after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-- The run: the result at its function of the arguments, the arguments unchanged. -/
theorem run : θ_run defs (onTc (τ := τ) (main (F := F))) ⟨m, fun _ => 0, ρ⟩ fun r => ∀ c : Dev nD,
      r.2.mem ((c : Thread nD τ).loc main_v0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), kept_main_arg0 m r h c, kept_main_arg1 m r h c,
      kept_main_arg2 m r h c, kept_main_arg3 m r h c⟩)
    (run_main m ρ)

end Cert.ReferenceIdeal.Value

end
-- ==== Proof.RefY.lean ====
/-
  The reference's result at an index: Winograd's output transform of the scaled products.
-/
import proofs.«01_k».proof.Proof.Gen.ReferenceIdeal.Skeleton
import proofs.«01_k».proof.Proof.Winograd

noncomputable section

namespace Cert.ReferenceIdeal.Hand

open Cert.ReferenceIdeal Cert.ReferenceIdeal.Gen
open Idealize.ShloMosaic

variable (x : FVec Ideal S16x64x1280 .fp8e4m3) (t : FVec Ideal S16x64x128 .f32)
  (w : FVec Ideal S16x8x160x320 .fp8e4m3) (s : FVec Ideal S16x8x320 .f32)

/-- The scaled product, read at an index. -/
theorem pay2_at (i j : Fin 4) (g : Fin 8) (n : Fin 63) (o : Fin 320) :
    k0_pay2 (F := Ideal) x t w s (ix5 i j g n o)
      = Cert.Winograd.Ms (fun p n k => x (ix3 p ⟨n.val, by omega⟩ k)) (fun p n => t (ix3 p ⟨n.val, by omega⟩ 0))
          (fun p g k o => w (ix4 p g k o)) (fun p g o => s (ix3 p g o)) (Cert.Winograd.pos i j) n g o := by
  pointwise [k0_pay2]
  rfl

theorem pay3_at (i : Fin 4) (g : Fin 8) (n : Fin 63) (o : Fin 320) :
    k0_pay3 (F := Ideal) x t w s (ix4 i g n o) = k0_pay2 (F := Ideal) x t w s (ix5 i 1 g n o) := by
  pointwise [k0_pay3]

theorem pay4_at (i : Fin 4) (g : Fin 8) (n : Fin 63) (o : Fin 320) :
    k0_pay4 (F := Ideal) x t w s (ix4 i g n o) = k0_pay2 (F := Ideal) x t w s (ix5 i 2 g n o) := by
  pointwise [k0_pay4]

theorem pay5_at (i : Fin 4) (g : Fin 8) (n : Fin 63) (o : Fin 320) :
    k0_pay5 (F := Ideal) x t w s (ix4 i g n o)
      = k0_pay2 (F := Ideal) x t w s (ix5 i 1 g n o) - k0_pay2 (F := Ideal) x t w s (ix5 i 2 g n o) - k0_pay2 (F := Ideal) x t w s (ix5 i 3 g n o) := by
  pointwise [k0_pay5]
  rw [pay3_at, pay4_at]

/-- The first output column before the rows are combined. -/
def c0 (i : Fin 4) (g : Fin 8) (n : Fin 63) (o : Fin 320) : EReal :=
  k0_pay2 (F := Ideal) x t w s (ix5 i 0 g n o) + k0_pay2 (F := Ideal) x t w s (ix5 i 1 g n o) + k0_pay2 (F := Ideal) x t w s (ix5 i 2 g n o)

theorem pay6_at (a : Fin 2) (g : Fin 8) (n : Fin 63) (o : Fin 320) :
    k0_pay6 (F := Ideal) x t w s (ix4 a g n o) = Cert.Winograd.At a.val fun i => c0 x t w s i g n o := by
  pointwise [k0_pay6]
  simp only [pay3_at, pay4_at]
  unfold Cert.Winograd.At c0
  by_cases h : a.val < 1 <;> simp only [h, if_true, if_false, dite_true, dite_false] <;> rfl

theorem pay7_at (g : Fin 8) (n : Fin 63) (o : Fin 320) :
    k0_pay7 (F := Ideal) x t w s (ix3 g n o) = k0_pay5 (F := Ideal) x t w s (ix4 0 g n o) := by
  pointwise [k0_pay7]

theorem pay8_at (g : Fin 8) (n : Fin 63) (o : Fin 320) :
    k0_pay8 (F := Ideal) x t w s (ix4 0 g n o) = k0_pay5 (F := Ideal) x t w s (ix4 1 g n o) := by
  pointwise [k0_pay8]

/-- The result, read at an index. -/
theorem y_at (h : Fin 18) (c : Fin 14) (o : Fin 2560) :
    k0_pay1 (F := Ideal) (k0_pay5 x t w s) (k0_pay6 x t w s) (k0_pay7 x t w s) (k0_pay8 x t w s) (ix4 0 h c o)
      = Cert.Winograd.Y (fun p n k => x (ix3 p ⟨n.val, by omega⟩ k)) (fun p n => t (ix3 p ⟨n.val, by omega⟩ 0))
          (fun p g k o => w (ix4 p g k o)) (fun p g o => s (ix3 p g o)) h c o := by
  pointwise [k0_pay1]
  simp only [pay6_at, pay7_at, pay8_at, pay5_at]
  unfold c0
  simp only [pay2_at]
  unfold Cert.Winograd.Y Cert.Winograd.At
  by_cases h1 : c.val % 2 < 1 <;> by_cases h2 : h.val % 2 < 1 <;> simp only [h1, h2, if_true, if_false, dite_true, dite_false] <;> rfl

end Cert.ReferenceIdeal.Hand

end
-- ==== Proof.Value.lean ====
/-
  The two programs end at one result: both hold Winograd's formula of the arguments.
-/
import proofs.«01_k».proof.Proof.KernR
import proofs.«01_k».proof.Proof.LaunchIdeal
import proofs.«01_k».proof.Proof.RefRun
import proofs.«01_k».proof.Proof.RefY
import proofs.«01_k».proof.Defs

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The block index of either staged argument at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

theorem emb0 (t : Fin cfg0.N) (j : S16x64x1280.Idx) : ((cfg0.win 0).blk t).view.emb j = j := by
  obtain ⟨e0, e1, e2⟩ := idx_zero0 t
  funext a; apply Fin.ext
  match a with
  | ⟨0, _⟩ => show win0_0.index t (0 : Fin 3) * 16 + 1 * (j 0).val = (j 0).val; omega
  | ⟨1, _⟩ => show win0_0.index t (1 : Fin 3) * 64 + 1 * (j 1).val = (j 1).val; omega
  | ⟨2, _⟩ => show win0_0.index t (2 : Fin 3) * 1280 + 1 * (j 2).val = (j 2).val; omega
theorem emb1 (t : Fin cfg0.N) (j : S16x64x128.Idx) : ((cfg0.win 1).blk t).view.emb j = j := by
  obtain ⟨e0, e1, e2⟩ := idx_zero1 t
  funext a; apply Fin.ext
  match a with
  | ⟨0, _⟩ => show win0_1.index t (0 : Fin 3) * 16 + 1 * (j 0).val = (j 0).val; omega
  | ⟨1, _⟩ => show win0_1.index t (1 : Fin 3) * 64 + 1 * (j 1).val = (j 1).val; omega
  | ⟨2, _⟩ => show win0_1.index t (2 : Fin 3) * 128 + 1 * (j 2).val = (j 2).val; omega

/-- The staged arguments are the arguments. -/
theorem iblk0_eq : iblk m c 0 t0_0 = m ((c.tc : Thread nD τ).loc main_arg0) := by
  funext j; show m ((c.tc : Thread nD τ).loc main_arg0) (((cfg0.win 0).blk t0_0).view.emb j) = _; rw [emb0]
theorem iblk1_eq : iblk m c 1 t0_0 = m ((c.tc : Thread nD τ).loc main_arg1) := by
  funext j; show m ((c.tc : Thread nD τ).loc main_arg1) (((cfg0.win 1).blk t0_0).view.emb j) = _; rw [emb1]

/-- The result that both programs end with. -/
def result (a0 : Vec Ideal S16x64x1280 .fp8e4m3) (a1 : Vec Ideal S16x64x128 .f32) (a2 : Vec Ideal S16x8x160x320 .fp8e4m3)
    (a3 : Vec Ideal S16x8x320 .f32) (h : Fin 18) (x : Fin 14) (o : Fin 2560) : EReal :=
  Cert.Winograd.Y (fun p n k => a0 (ix3 p ⟨n.val, by omega⟩ k)) (fun p n => a1 (ix3 p ⟨n.val, by omega⟩ 0))
    (fun p g k o => a2 (ix4 p g k o)) (fun p g o => a3 (ix3 p g o)) h x o

/-- An index of the result, by its row, column and channel. -/
theorem eta (y : S1x18x14x2560.Idx) : y = ix4 (0 : Fin 1) (y 1 : Fin 18) (y 2 : Fin 14) (y 3 : Fin 2560) := by
  funext q
  fin_cases q
  · exact Subsingleton.elim (α := Fin 1) _ _
  · rfl
  · rfl
  · rfl

/-- The result as an array. -/
def resultArr (a0 : Vec Ideal S16x64x1280 .fp8e4m3) (a1 : Vec Ideal S16x64x128 .f32) (a2 : Vec Ideal S16x8x160x320 .fp8e4m3)
    (a3 : Vec Ideal S16x8x320 .f32) : Vec Ideal S1x18x14x2560 .bf16 := fun y => result a0 a1 a2 a3 (y 1) (y 2) (y 3)

/-- What the kernel's run leaves in its result, of the arguments. -/
theorem kernel_result (fC : Bf (F := Ideal) c stC) (fX : Bf (F := Ideal) c stX) (gW gS gP gY)
    (hC : stC.view.read (Elt Ideal) fC = iblk m c 0 t0_0) (hX : stX.view.read (Elt Ideal) fX = iblk m c 1 t0_0) :
    (kernelRun (F := Ideal) c fC fX (V m c main_arg2) (V m c main_arg3) gW gS gP gY (V m c main_v0)).1
      = resultArr (m ((c.tc : Thread nD τ).loc main_arg0)) (m ((c.tc : Thread nD τ).loc main_arg1))
          (m ((c.tc : Thread nD τ).loc main_arg2)) (m ((c.tc : Thread nD τ).loc main_arg3)) := by
  funext y
  have hy := eta y
  rw [hy]
  refine (result_at c fC fX _ _ gW gS gP gY _ _ _ _).trans ?_
  have eC : aC c fC = fun p n k => m ((c.tc : Thread nD τ).loc main_arg0) (ix3 p ⟨n.val, by omega⟩ k) := by
    funext p n k; unfold aC; rw [hC, iblk0_eq]
  have eX : aX c fX = fun p n => m ((c.tc : Thread nD τ).loc main_arg1) (ix3 p ⟨n.val, by omega⟩ 0) := by
    funext p n; unfold aX; rw [hX, iblk1_eq]
  unfold G
  rw [eC, eX]
  rfl

end Cert.KernelIdeal.Hand

namespace Cert.Proof

open Idealize.ShloMosaic Idealize.ShloMosaic.TcCoe Idealize.SL.Sem

theorem ref_result (a0 : Vec Ideal Cert.ReferenceIdeal.S16x64x1280 .fp8e4m3) (a1 : Vec Ideal Cert.ReferenceIdeal.S16x64x128 .f32)
    (a2 : Vec Ideal Cert.ReferenceIdeal.S16x8x160x320 .fp8e4m3) (a3 : Vec Ideal Cert.ReferenceIdeal.S16x8x320 .f32) :
    Cert.ReferenceIdeal.Value.G4 (F := Ideal) a0 a1 a2 a3 = Cert.KernelIdeal.Hand.resultArr a0 a1 a2 a3 := by
  funext y
  have hy := Cert.KernelIdeal.Hand.eta y
  rw [hy]
  exact Cert.ReferenceIdeal.Hand.y_at a0 a1 a2 a3 _ _ _

/-- Over the extended reals, the kernel and the reference end with the same result. -/
theorem algebraic : Cert.algebraic_KernelIdeal_ReferenceIdeal := by
  intro m g m' g' _ hm
  refine ⟨fun c => Cert.KernelIdeal.Hand.resultArr (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run _ _ _).mono (fun r h c => ?_) (Cert.KernelIdeal.Hand.run_all m g)
    obtain ⟨⟨fC, fX, gW, gS, gP, gY, hC, hX, hR⟩, hk⟩ := h.1 c
    exact ⟨hR.trans (Cert.KernelIdeal.Hand.kernel_result m c fC fX gW gS gP gY hC hX), hk⟩
  · refine (θ_run _ _ _).mono (fun r h c => ?_) (Cert.ReferenceIdeal.Value.run m' g')
    obtain ⟨hR, hk⟩ := h c
    obtain ⟨h0, h1, h2, h3⟩ := hm c
    refine ⟨hR.trans ?_, hk⟩
    rw [ref_result]
    exact congr (congr (congr (congrArg Cert.KernelIdeal.Hand.resultArr h0) h1) h2) h3

end Cert.Proof

end
-- ==== Proof.QRun.lean ====
/-
  One run of the quantiser's body over any float operations: from the operands, results and scratch held whole and every
  semaphore at zero it ends with the operands as they were, the two results at contents that the run finds, and every
  semaphore at zero.
-/
import proofs.«01_k».proof.Proof.Gen.QuantiserIdeal.Launch
import proofs.«01_k».proof.Proof.Gen.QuantiserIdeal.Skeleton
import proofs.«01_k».proof.Proof.Gen.QuantiserIdeal.Points
import Idealize.ShloMosaic.Lib.Pipeline.FrameBody
import Idealize.ShloMosaic.Lib.Ring
import Idealize.ShloMosaic.Lib.Tactic

noncomputable section

namespace Cert.QuantiserIdeal.Hand

open Cert.QuantiserIdeal Cert.QuantiserIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The results, in HBM: the codes, their scales. -/
abbrev hbC : Memref sig .tc .hbm S16x63x1280 .fp8e4m3 := Memref.whole main_v0_0
abbrev hbE : Memref sig .tc .hbm S16x63 .f32 := Memref.whole main_v0_1
/-- The scratch buffers: the codes with 64 rows and with 63, the scales over the lanes, the scales transposed. -/
abbrev scC : Memref sig .tc .vmem S16x64x1280 .fp8e4m3 := Memref.whole cc0_scratch0
abbrev scD : Memref sig .tc .vmem S16x63x1280 .fp8e4m3 := Memref.whole cc0_scratch1
abbrev scE : Memref sig .tc .vmem S16x64x128 .f32 := Memref.whole cc0_scratch2
abbrev scG : Memref sig .tc .vmem S16x63 .f32 := Memref.whole cc0_scratch3
/-- The staging buffers of the two operands. -/
abbrev stV : Memref sig .tc .vmem S16x64x1280 .f32 := Memref.whole cc0_stg0_0
abbrev stA : Memref sig .tc .vmem S16x64x1 .f32 := Memref.whole cc0_stg1_0

/-- The two semaphore cells of the body's own transfers, each at zero. -/
abbrev cells0 (c : Dev nD) : sProp 𝕄 :=
  iprop(semVal ((c : Thread nD τ), SemLoc.dma 2) 0 ∗ semVal ((c : Thread nD τ), SemLoc.dma 3) 0)

set_option maxHeartbeats 0 in
set_option maxRecDepth 100000 in
noncomputable def kernelRun (c : Dev nD)
    (fV : Bf (F := F) c stV) (fA : Bf (F := F) c stA)
    (gC : Bf (F := F) c scC) (gD : Bf (F := F) c scD) (gE : Bf (F := F) c scE) (gG : Bf (F := F) c scG)
    (fC : Bf (F := F) c hbC) (fE : Bf (F := F) c hbE) :
    { R : Bf (F := F) c hbC × Bf (F := F) c hbE //
      ∀ (W : Waits sig Unit) (K : PUnit → sProp 𝕄),
        iprop(pt c stV fV ∗ pt c stA fA ∗ pt c hbC fC ∗ pt c hbE fE
            ∗ pt c scC gC ∗ pt c scD gD ∗ pt c scE gE ∗ pt c scG gG
            ∗ cells0 c ∗ owes (c : Thread nD τ) 0 W
            ∗ (iprop(pt c stV fV ∗ pt c stA fA ∗ pt c hbC R.1 ∗ pt c hbE R.2
                ∗ (∃ f, pt c scC f) ∗ (∃ f, pt c scD f) ∗ (∃ f, pt c scE f) ∗ (∃ f, pt c scG f)
                ∗ cells0 c ∗ (∃ W', owes (c : Thread nD τ) 0 W')) -∗ K ⟨⟩))
          ⊢ wp frame (wpE (defs₀ (F := F)) Variants.none c none) Set.univ
              (cc0_winograd_fp8_quantise stV (Memref.isWhole_whole _) stA (Memref.isWhole_whole _) hbC (Memref.isWhole_whole _)
                hbE (Memref.isWhole_whole _) scC (Memref.isWhole_whole _) scD (Memref.isWhole_whole _)
                scE (Memref.isWhole_whole _) scG (Memref.isWhole_whole _) cc0_scratch4 cc0_scratch5) K } := by
  refine ⟨(?rC, ?rE), fun W K => ?run⟩
  case run =>
    iintro ⟨HV, HA, HbC, HbE, HC, HD, HE, HG, ⟨Hq2, Hq3⟩, HO, Hk⟩
    sl_exec_parts!
    sl_step
    iapply Hk
    isplitl [HV]; · iexact HV
    isplitl [HA]; · iexact HA
    isplitl [HbC]; · iexact HbC
    isplitl [HbE]; · iexact HbE
    isplitl [HC]; · iexists _; iexact HC
    isplitl [HD]; · iexists _; iexact HD
    isplitl [HE]; · iexists _; iexact HE
    isplitl [HG]; · iexists _; iexact HG
    isplitl [Hq2 Hq3]
    · isplitl [Hq2]; · iexact Hq2
      iexact Hq3
    iexists _; iexact HO

end Cert.QuantiserIdeal.Hand

end
-- ==== Proof.QStage.lean ====
/-
  The quantiser's stages as functions of the loaded values: the search for the power of two, the scale, its inverse, and
  the two kinds of stored blocks. Each is written with the kernel's own operations, once for all positions and blocks; the
  run's lists of stores are lists of these.
-/
import proofs.«01_k».proof.Proof.QRun

noncomputable section

namespace Cert.QuantiserIdeal.Hand

open Cert.QuantiserIdeal Cert.QuantiserIdeal.Gen
open Idealize.ShloMosaic Idealize.ShloMosaic.TcCoe

variable {F : FTy → Type} [FloatOps F]

/-- A constant over the rows and lanes. -/
abbrev cst (b : BitVec 32) : FVec F S64x128 .f32 := broadcast S64x128 (Scalar.ofBits .f32 b : F .f32)

/-- The row maxima over the lanes, divided by the largest code. -/
def ratio (a : Vec F S1x64x1 .f32) : FVec F S64x128 .f32 :=
  mulf (broadcastTo S64x128 (shapeCast S64x1 (shapeCast S64x1 a shapeCasts_S1x64x1_S64x1) shapeCasts_S64x1_S64x1) broadcasts_S64x1_S64x128)
    (cst 0x3B124925#32)

/-- One step of the search: whether the power, times `k`, is still at most `t`. -/
def fits (t ef : FVec F S64x128 .f32) (k : BitVec 32) : IVec S64x128 1 := cmpf .oge t (mulf ef (cst k))
def stepE (t ef : FVec F S64x128 .f32) (k : BitVec 32) : FVec F S64x128 .f32 := select (fits t ef k) (mulf ef (cst k)) ef
def stepI (t ef inv : FVec F S64x128 .f32) (k l : BitVec 32) : FVec F S64x128 .f32 := select (fits t ef k) (mulf inv (cst l)) inv

def e0 : FVec F S64x128 .f32 := cst 0x00800000#32
def e1 (t : FVec F S64x128 .f32) : FVec F S64x128 .f32 := stepE t e0 0x7E800000#32
def e2 (t : FVec F S64x128 .f32) : FVec F S64x128 .f32 := stepE t (e1 t) 0x5F800000#32
def e3 (t : FVec F S64x128 .f32) : FVec F S64x128 .f32 := stepE t (e2 t) 0x4F800000#32
def e4 (t : FVec F S64x128 .f32) : FVec F S64x128 .f32 := stepE t (e3 t) 0x47800000#32
def e5 (t : FVec F S64x128 .f32) : FVec F S64x128 .f32 := stepE t (e4 t) 0x43800000#32
def e6 (t : FVec F S64x128 .f32) : FVec F S64x128 .f32 := stepE t (e5 t) 0x41800000#32
def e7 (t : FVec F S64x128 .f32) : FVec F S64x128 .f32 := stepE t (e6 t) 0x40800000#32
def e8 (t : FVec F S64x128 .f32) : FVec F S64x128 .f32 := stepE t (e7 t) 0x40000000#32

def i0 : FVec F S64x128 .f32 := cst 0x7E000000#32
def i1 (t : FVec F S64x128 .f32) : FVec F S64x128 .f32 := stepI t e0 i0 0x7E800000#32 0x00800000#32
def i2 (t : FVec F S64x128 .f32) : FVec F S64x128 .f32 := stepI t (e1 t) (i1 t) 0x5F800000#32 0x1F800000#32
def i3 (t : FVec F S64x128 .f32) : FVec F S64x128 .f32 := stepI t (e2 t) (i2 t) 0x4F800000#32 0x2F800000#32
def i4 (t : FVec F S64x128 .f32) : FVec F S64x128 .f32 := stepI t (e3 t) (i3 t) 0x47800000#32 0x37800000#32
def i5 (t : FVec F S64x128 .f32) : FVec F S64x128 .f32 := stepI t (e4 t) (i4 t) 0x43800000#32 0x3B800000#32
def i6 (t : FVec F S64x128 .f32) : FVec F S64x128 .f32 := stepI t (e5 t) (i5 t) 0x41800000#32 0x3D800000#32
def i7 (t : FVec F S64x128 .f32) : FVec F S64x128 .f32 := stepI t (e6 t) (i6 t) 0x40800000#32 0x3E800000#32
def i8 (t : FVec F S64x128 .f32) : FVec F S64x128 .f32 := stepI t (e7 t) (i7 t) 0x40000000#32 0x3F000000#32

/-- Whether the ratio is a normal number. -/
def normal (t : FVec F S64x128 .f32) : IVec S64x128 1 := andi (cmpf .oge t (cst 0x00800000#32)) (cmpf .ole t (cst 0x7F7FFFFF#32))

/-- The scale, and its inverse. -/
def scale (t : FVec F S64x128 .f32) : FVec F S64x128 .f32 := select (normal t) (mulf (e8 t) (cst 0x40000000#32)) (cst 0x3F800000#32)
def inverse (t : FVec F S64x128 .f32) : FVec F S64x128 .f32 := select (normal t) (i8 t) (cst 0x3F800000#32)

/-- The block of scales of one position. -/
def scaleBlock (a : Vec F S1x64x1 .f32) : FVec F S1x64x128 .f32 := shapeCast S1x64x128 (scale (ratio a)) shapeCasts_S64x128_S1x64x128

/-- The block of codes of one position and 128 channels. -/
def codeBlock (a : Vec F S1x64x1 .f32) (v : Vec F S1x64x128 .f32) : FVec F S1x63x128 .fp8e4m3 :=
  shapeCast S1x63x128 (extractStridedSlice S63x128 ![0, 0]
    (truncf .fp8e4m3 (minimumf (cst 0x43E00000#32) (maximumf (cst 0xC3E00000#32)
      (mulf (shapeCast S64x128 v shapeCasts_S1x64x128_S64x128) (inverse (ratio a))))) bitsLt_fp8e4m3_f32)
    slices_S64x128_o0_0_S63x128) shapeCasts_S63x128_S1x63x128

variable (c : Dev nD) (fV : Bf (F := F) c stV) (fA : Bf (F := F) c stA)

theorem inbA (p : ℕ) (hp : p < 16) : ∀ a, (![p, 0, 0] : Fin 3 → ℕ) a + S1x64x1.size a ≤ S16x64x1.size a := by
  intro a; fin_cases a <;> simp <;> omega
theorem inbE (p : ℕ) (hp : p < 16) : ∀ a, (![p, 0, 0] : Fin 3 → ℕ) a + S1x64x128.size a ≤ S16x64x128.size a := by
  intro a; fin_cases a <;> simp <;> omega
theorem inbV (p k : ℕ) (hp : p < 16) (hk : k + 128 ≤ 1280) : ∀ a, (![p, 0, k] : Fin 3 → ℕ) a + S1x64x128.size a ≤ S16x64x1280.size a := by
  intro a; fin_cases a <;> simp <;> omega
theorem inbD (p k : ℕ) (hp : p < 16) (hk : k + 128 ≤ 1280) : ∀ a, (![p, 0, k] : Fin 3 → ℕ) a + S1x63x128.size a ≤ S16x63x1280.size a := by
  intro a; fin_cases a <;> simp <;> omega

/-- The row maxima of one position, and the transformed image of one position over 128 channels. -/
def loadA (p : ℕ) (hp : p < 16) : Vec F S1x64x1 .f32 :=
  View.readAt (Elt F) stA.view (Rect.unit (s := S16x64x1) ![p, 0, 0] S1x64x1.size (inbA p hp)).toLoadRect fA
def loadV (p k : ℕ) (hp : p < 16) (hk : k + 128 ≤ 1280) : Vec F S1x64x128 .f32 :=
  View.readAt (Elt F) stV.view (Rect.unit (s := S16x64x1280) ![p, 0, k] S1x64x128.size (inbV p k hp hk)).toLoadRect fV

/-- The store of one position's scales, and that of one position's codes of 128 channels. -/
def pieceE (p : ℕ) (hp : p < 16) : View.Piece (Elt F) S16x64x128 .f32 :=
  ⟨Rect.unit (s := S16x64x128) ![p, 0, 0] S1x64x128.size (inbE p hp), scaleBlock (loadA c fA p hp)⟩
def pieceD (p k : ℕ) (hp : p < 16) (hk : k + 128 ≤ 1280) : View.Piece (Elt F) S16x63x1280 .fp8e4m3 :=
  ⟨Rect.unit (s := S16x63x1280) ![p, 0, k] S1x63x128.size (inbD p k hp hk), codeBlock (loadA c fA p hp) (loadV c fV p k hp hk)⟩

/-- The ten stores of one position's codes, after the stores `L`. -/
def row10 (p : ℕ) (hp : p < 16) (L : List (View.Piece (Elt F) S16x63x1280 .fp8e4m3)) : List (View.Piece (Elt F) S16x63x1280 .fp8e4m3) :=
  pieceD c fV fA p 1152 hp (by omega) :: pieceD c fV fA p 1024 hp (by omega) :: pieceD c fV fA p 896 hp (by omega) :: pieceD c fV fA p 768 hp (by omega)
    :: pieceD c fV fA p 640 hp (by omega) :: pieceD c fV fA p 512 hp (by omega) :: pieceD c fV fA p 384 hp (by omega) :: pieceD c fV fA p 256 hp (by omega)
    :: pieceD c fV fA p 128 hp (by omega) :: pieceD c fV fA p 0 hp (by omega) :: L

end Cert.QuantiserIdeal.Hand

end
-- ==== Proof.QLists.lean ====
/-
  The run's lists of stores are the lists of `QStage`.
-/
import proofs.«01_k».proof.Proof.QStage

noncomputable section

namespace Cert.QuantiserIdeal.Hand

open Cert.QuantiserIdeal Cert.QuantiserIdeal.Gen
open Idealize.ShloMosaic Idealize.ShloMosaic.TcCoe

variable {F : FTy → Type} [FloatOps F]
variable (c : Dev nD) (fV : Bf (F := F) c stV) (fA : Bf (F := F) c stA)

set_option maxRecDepth 100000
set_option maxHeartbeats 0

theorem HE_1_eq : kernelRun.sl.HE_1 c fA = pieceE c fA 0 (by omega) :: [] := rfl
theorem HE_2_eq : kernelRun.sl.HE_2 c fA = pieceE c fA 1 (by omega) :: (kernelRun.sl.HE_1 c fA) := rfl
theorem HE_3_eq : kernelRun.sl.HE_3 c fA = pieceE c fA 2 (by omega) :: (kernelRun.sl.HE_2 c fA) := rfl
theorem HE_4_eq : kernelRun.sl.HE_4 c fA = pieceE c fA 3 (by omega) :: (kernelRun.sl.HE_3 c fA) := rfl
theorem HE_5_eq : kernelRun.sl.HE_5 c fA = pieceE c fA 4 (by omega) :: (kernelRun.sl.HE_4 c fA) := rfl
theorem HE_6_eq : kernelRun.sl.HE_6 c fA = pieceE c fA 5 (by omega) :: (kernelRun.sl.HE_5 c fA) := rfl
theorem HE_7_eq : kernelRun.sl.HE_7 c fA = pieceE c fA 6 (by omega) :: (kernelRun.sl.HE_6 c fA) := rfl
theorem HE_8_eq : kernelRun.sl.HE_8 c fA = pieceE c fA 7 (by omega) :: (kernelRun.sl.HE_7 c fA) := rfl
theorem HE_9_eq : kernelRun.sl.HE_9 c fA = pieceE c fA 8 (by omega) :: (kernelRun.sl.HE_8 c fA) := rfl
theorem HE_10_eq : kernelRun.sl.HE_10 c fA = pieceE c fA 9 (by omega) :: (kernelRun.sl.HE_9 c fA) := rfl
theorem HE_11_eq : kernelRun.sl.HE_11 c fA = pieceE c fA 10 (by omega) :: (kernelRun.sl.HE_10 c fA) := rfl
theorem HE_12_eq : kernelRun.sl.HE_12 c fA = pieceE c fA 11 (by omega) :: (kernelRun.sl.HE_11 c fA) := rfl
theorem HE_13_eq : kernelRun.sl.HE_13 c fA = pieceE c fA 12 (by omega) :: (kernelRun.sl.HE_12 c fA) := rfl
theorem HE_14_eq : kernelRun.sl.HE_14 c fA = pieceE c fA 13 (by omega) :: (kernelRun.sl.HE_13 c fA) := rfl
theorem HE_15_eq : kernelRun.sl.HE_15 c fA = pieceE c fA 14 (by omega) :: (kernelRun.sl.HE_14 c fA) := rfl
theorem HE_16_eq : kernelRun.sl.HE_16 c fA = pieceE c fA 15 (by omega) :: (kernelRun.sl.HE_15 c fA) := rfl

theorem HD_10_eq : kernelRun.sl.HD_10 c fV fA = row10 c fV fA 0 (by omega) [] := rfl
theorem HD_20_eq : kernelRun.sl.HD_20 c fV fA = row10 c fV fA 1 (by omega) (kernelRun.sl.HD_10 c fV fA) := rfl
theorem HD_30_eq : kernelRun.sl.HD_30 c fV fA = row10 c fV fA 2 (by omega) (kernelRun.sl.HD_20 c fV fA) := rfl
theorem HD_40_eq : kernelRun.sl.HD_40 c fV fA = row10 c fV fA 3 (by omega) (kernelRun.sl.HD_30 c fV fA) := rfl
theorem HD_50_eq : kernelRun.sl.HD_50 c fV fA = row10 c fV fA 4 (by omega) (kernelRun.sl.HD_40 c fV fA) := rfl
theorem HD_60_eq : kernelRun.sl.HD_60 c fV fA = row10 c fV fA 5 (by omega) (kernelRun.sl.HD_50 c fV fA) := rfl
theorem HD_70_eq : kernelRun.sl.HD_70 c fV fA = row10 c fV fA 6 (by omega) (kernelRun.sl.HD_60 c fV fA) := rfl
theorem HD_80_eq : kernelRun.sl.HD_80 c fV fA = row10 c fV fA 7 (by omega) (kernelRun.sl.HD_70 c fV fA) := rfl
theorem HD_90_eq : kernelRun.sl.HD_90 c fV fA = row10 c fV fA 8 (by omega) (kernelRun.sl.HD_80 c fV fA) := rfl
theorem HD_100_eq : kernelRun.sl.HD_100 c fV fA = row10 c fV fA 9 (by omega) (kernelRun.sl.HD_90 c fV fA) := rfl
theorem HD_110_eq : kernelRun.sl.HD_110 c fV fA = row10 c fV fA 10 (by omega) (kernelRun.sl.HD_100 c fV fA) := rfl
theorem HD_120_eq : kernelRun.sl.HD_120 c fV fA = row10 c fV fA 11 (by omega) (kernelRun.sl.HD_110 c fV fA) := rfl
theorem HD_130_eq : kernelRun.sl.HD_130 c fV fA = row10 c fV fA 12 (by omega) (kernelRun.sl.HD_120 c fV fA) := rfl
theorem HD_140_eq : kernelRun.sl.HD_140 c fV fA = row10 c fV fA 13 (by omega) (kernelRun.sl.HD_130 c fV fA) := rfl
theorem HD_150_eq : kernelRun.sl.HD_150 c fV fA = row10 c fV fA 14 (by omega) (kernelRun.sl.HD_140 c fV fA) := rfl
theorem HD_160_eq : kernelRun.sl.HD_160 c fV fA = row10 c fV fA 15 (by omega) (kernelRun.sl.HD_150 c fV fA) := rfl

end Cert.QuantiserIdeal.Hand

end
-- ==== Proof.QExp.lean ====
/-
  Powers of two among the extended reals, and the search for the largest one that is at most a given number.
-/
import Idealize.ShloMosaic.PureOps.Ideal

noncomputable section

namespace Cert.Exponent

open Idealize.ShloMosaic

/-- A power of two. -/
def p2 (a : ℤ) : EReal := (((2 : ℝ) ^ a : ℝ) : EReal)

theorem p2_mul (a b : ℤ) : p2 a * p2 b = p2 (a + b) := by
  unfold p2
  rw [← EReal.coe_mul, zpow_add₀ (by norm_num : (2 : ℝ) ≠ 0)]

theorem p2_le (a b : ℤ) : p2 a ≤ p2 b ↔ a ≤ b := by
  unfold p2
  rw [EReal.coe_le_coe_iff]
  exact zpow_le_zpow_iff_right₀ (by norm_num)

theorem p2_zero : p2 0 = 1 := by unfold p2; simp

/-- The exponential to base two, at a whole number. -/
theorem exp2_int (a : ℤ) : Ideal.exp2 ((a : ℝ) : EReal) = p2 a := by
  unfold p2
  rw [Ideal.exp2_coe]
  congr 1
  exact Real.rpow_intCast 2 a

/-- One step of the search, for the power and for its inverse. -/
def up (t e k : EReal) : EReal := if e * k ≤ t then e * k else e
def dn (t e i k l : EReal) : EReal := if e * k ≤ t then i * l else i

theorem step {t : EReal} {L : ℤ} (ht : ∀ a, p2 a ≤ t ↔ a ≤ L) {a k M N : ℤ} (ha : a ≤ L) (hM : L < a + M) (hk : k ≤ N) (hN : M ≤ k + N) :
    ∃ b, up t (p2 a) (p2 k) = p2 b ∧ dn t (p2 a) (p2 (-1 - a)) (p2 k) (p2 (-k)) = p2 (-1 - b) ∧ b ≤ L ∧ L < b + N := by
  unfold up dn
  simp only [p2_mul, ht]
  by_cases h : a + k ≤ L
  · exact ⟨a + k, by rw [if_pos h], by rw [if_pos h]; congr 1; omega, h, by omega⟩
  · exact ⟨a, by rw [if_neg h], by rw [if_neg h], ha, by omega⟩

/-- The power found, and its inverse's half. -/
def found1 (t : EReal) : EReal := up t (p2 (-126)) (p2 126)
def found2 (t : EReal) : EReal := up t (found1 t) (p2 64)
def found3 (t : EReal) : EReal := up t (found2 t) (p2 32)
def found4 (t : EReal) : EReal := up t (found3 t) (p2 16)
def found5 (t : EReal) : EReal := up t (found4 t) (p2 8)
def found6 (t : EReal) : EReal := up t (found5 t) (p2 4)
def found7 (t : EReal) : EReal := up t (found6 t) (p2 2)
def found8 (t : EReal) : EReal := up t (found7 t) (p2 1)
def half1 (t : EReal) : EReal := dn t (p2 (-126)) (p2 125) (p2 126) (p2 (-126))
def half2 (t : EReal) : EReal := dn t (found1 t) (half1 t) (p2 64) (p2 (-64))
def half3 (t : EReal) : EReal := dn t (found2 t) (half2 t) (p2 32) (p2 (-32))
def half4 (t : EReal) : EReal := dn t (found3 t) (half3 t) (p2 16) (p2 (-16))
def half5 (t : EReal) : EReal := dn t (found4 t) (half4 t) (p2 8) (p2 (-8))
def half6 (t : EReal) : EReal := dn t (found5 t) (half5 t) (p2 4) (p2 (-4))
def half7 (t : EReal) : EReal := dn t (found6 t) (half6 t) (p2 2) (p2 (-2))
def half8 (t : EReal) : EReal := dn t (found7 t) (half7 t) (p2 1) (p2 (-1))

theorem search {t : EReal} {L : ℤ} (ht : ∀ a, p2 a ≤ t ↔ a ≤ L) (h0 : -126 ≤ L) (h1 : L < 128) :
    found8 t = p2 L ∧ half8 t = p2 (-1 - L) := by
  obtain ⟨a1, f1, g1, l1, u1⟩ := step ht (a := -126) (k := 126) (M := 254) (N := 128) h0 (by omega) (by omega) (by omega)
  obtain ⟨a2, f2, g2, l2, u2⟩ := step ht (k := 64) (N := 64) l1 u1 (by omega) (by omega)
  obtain ⟨a3, f3, g3, l3, u3⟩ := step ht (k := 32) (N := 32) l2 u2 (by omega) (by omega)
  obtain ⟨a4, f4, g4, l4, u4⟩ := step ht (k := 16) (N := 16) l3 u3 (by omega) (by omega)
  obtain ⟨a5, f5, g5, l5, u5⟩ := step ht (k := 8) (N := 8) l4 u4 (by omega) (by omega)
  obtain ⟨a6, f6, g6, l6, u6⟩ := step ht (k := 4) (N := 4) l5 u5 (by omega) (by omega)
  obtain ⟨a7, f7, g7, l7, u7⟩ := step ht (k := 2) (N := 2) l6 u6 (by omega) (by omega)
  obtain ⟨a8, f8, g8, l8, u8⟩ := step ht (k := 1) (N := 1) l7 u7 (by omega) (by omega)
  have e : a8 = L := by omega
  subst e
  have F1 : found1 t = p2 a1 := f1
  have G1 : half1 t = p2 (-1 - a1) := g1
  have F2 : found2 t = p2 a2 := by unfold found2; rw [F1]; exact f2
  have G2 : half2 t = p2 (-1 - a2) := by unfold half2; rw [F1, G1]; exact g2
  have F3 : found3 t = p2 a3 := by unfold found3; rw [F2]; exact f3
  have G3 : half3 t = p2 (-1 - a3) := by unfold half3; rw [F2, G2]; exact g3
  have F4 : found4 t = p2 a4 := by unfold found4; rw [F3]; exact f4
  have G4 : half4 t = p2 (-1 - a4) := by unfold half4; rw [F3, G3]; exact g4
  have F5 : found5 t = p2 a5 := by unfold found5; rw [F4]; exact f5
  have G5 : half5 t = p2 (-1 - a5) := by unfold half5; rw [F4, G4]; exact g5
  have F6 : found6 t = p2 a6 := by unfold found6; rw [F5]; exact f6
  have G6 : half6 t = p2 (-1 - a6) := by unfold half6; rw [F5, G5]; exact g6
  have F7 : found7 t = p2 a7 := by unfold found7; rw [F6]; exact f7
  have G7 : half7 t = p2 (-1 - a7) := by unfold half7; rw [F6, G6]; exact g7
  have F8 : found8 t = p2 a8 := by unfold found8; rw [F7]; exact f8
  have G8 : half8 t = p2 (-1 - a8) := by unfold half8; rw [F7, G7]; exact g8
  exact ⟨F8, G8⟩

/-- The largest number of the format. -/
def big : EReal := Ideal.ofBits .f32 0x7F7FFFFF#32
theorem big_lt : big < p2 128 := by
  unfold big p2
  have h : Ideal.ofBits .f32 0x7F7FFFFF#32 = ((340282346638528859811704183484516925440 : ℝ) : EReal) := by
    simp [Ideal.ofBits, Ideal.ieee, -EReal.coe_mul]; norm_num
  rw [h, EReal.coe_lt_coe_iff]
  norm_num

/-- Between the smallest and the largest number of the format a number has an exponent. -/
theorem exponent {t : EReal} (h0 : p2 (-126) ≤ t) (h1 : t ≤ big) : ∃ L : ℤ, (∀ a, p2 a ≤ t ↔ a ≤ L) ∧ -126 ≤ L ∧ L < 128 := by
  have hb := lt_of_le_of_lt h1 big_lt
  induction t with
  | bot => exact absurd h0 (by unfold p2; simp)
  | top => exact absurd hb (by simp)
  | coe r =>
    have hr : (0 : ℝ) < r := lt_of_lt_of_le (zpow_pos (by norm_num : (0 : ℝ) < 2) (-126)) (EReal.coe_le_coe_iff.mp h0)
    obtain ⟨L, hL0, hL1⟩ := exists_mem_Ico_zpow hr (by norm_num : (1 : ℝ) < 2)
    have key : ∀ a : ℤ, p2 a ≤ (r : EReal) ↔ a ≤ L := by
      intro a
      unfold p2
      rw [EReal.coe_le_coe_iff]
      constructor
      · intro h
        have h2 : (2 : ℝ) ^ a < 2 ^ (L + 1) := lt_of_le_of_lt h hL1
        have h3 := (zpow_lt_zpow_iff_right₀ (by norm_num : (1 : ℝ) < 2)).mp h2
        omega
      · intro h
        exact le_trans ((zpow_le_zpow_iff_right₀ (by norm_num : (1 : ℝ) < 2)).mpr h) hL0
    refine ⟨L, key, (key _).mp h0, ?_⟩
    by_contra hn
    exact absurd ((key 128).mpr (by omega)) (not_le.mpr hb)

/-! ## The constants of the programs -/

theorem const_m126 : Ideal.ofBits .f32 0x00800000#32 = p2 (-126) := by
  unfold p2; simp [Ideal.ofBits, Ideal.ieee, -EReal.coe_mul, -EReal.coe_pow]; try norm_num
theorem const_126 : Ideal.ofBits .f32 0x7E800000#32 = p2 126 := by
  unfold p2; simp [Ideal.ofBits, Ideal.ieee, -EReal.coe_mul, -EReal.coe_pow]; try norm_num
theorem const_64 : Ideal.ofBits .f32 0x5F800000#32 = p2 64 := by
  unfold p2; simp [Ideal.ofBits, Ideal.ieee, -EReal.coe_mul, -EReal.coe_pow]; try norm_num
theorem const_32 : Ideal.ofBits .f32 0x4F800000#32 = p2 32 := by
  unfold p2; simp [Ideal.ofBits, Ideal.ieee, -EReal.coe_mul, -EReal.coe_pow]; try norm_num
theorem const_16 : Ideal.ofBits .f32 0x47800000#32 = p2 16 := by
  unfold p2; simp [Ideal.ofBits, Ideal.ieee, -EReal.coe_mul, -EReal.coe_pow]; try norm_num
theorem const_8 : Ideal.ofBits .f32 0x43800000#32 = p2 8 := by
  unfold p2; simp [Ideal.ofBits, Ideal.ieee, -EReal.coe_mul, -EReal.coe_pow]; try norm_num
theorem const_4 : Ideal.ofBits .f32 0x41800000#32 = p2 4 := by
  unfold p2; simp [Ideal.ofBits, Ideal.ieee, -EReal.coe_mul, -EReal.coe_pow]; try norm_num
theorem const_2 : Ideal.ofBits .f32 0x40800000#32 = p2 2 := by
  unfold p2; simp [Ideal.ofBits, Ideal.ieee, -EReal.coe_mul, -EReal.coe_pow]; try norm_num
theorem const_1 : Ideal.ofBits .f32 0x40000000#32 = p2 1 := by
  unfold p2; simp [Ideal.ofBits, Ideal.ieee, -EReal.coe_mul, -EReal.coe_pow]; try norm_num
theorem const_125 : Ideal.ofBits .f32 0x7E000000#32 = p2 125 := by
  unfold p2; simp [Ideal.ofBits, Ideal.ieee, -EReal.coe_mul, -EReal.coe_pow]; try norm_num
theorem const_m64 : Ideal.ofBits .f32 0x1F800000#32 = p2 (-64) := by
  unfold p2; simp [Ideal.ofBits, Ideal.ieee, -EReal.coe_mul, -EReal.coe_pow]; try norm_num
theorem const_m32 : Ideal.ofBits .f32 0x2F800000#32 = p2 (-32) := by
  unfold p2; simp [Ideal.ofBits, Ideal.ieee, -EReal.coe_mul, -EReal.coe_pow]; try norm_num
theorem const_m16 : Ideal.ofBits .f32 0x37800000#32 = p2 (-16) := by
  unfold p2; simp [Ideal.ofBits, Ideal.ieee, -EReal.coe_mul, -EReal.coe_pow]; try norm_num
theorem const_m8 : Ideal.ofBits .f32 0x3B800000#32 = p2 (-8) := by
  unfold p2; simp [Ideal.ofBits, Ideal.ieee, -EReal.coe_mul, -EReal.coe_pow]; try norm_num
theorem const_m4 : Ideal.ofBits .f32 0x3D800000#32 = p2 (-4) := by
  unfold p2; simp [Ideal.ofBits, Ideal.ieee, -EReal.coe_mul, -EReal.coe_pow]; try norm_num
theorem const_m2 : Ideal.ofBits .f32 0x3E800000#32 = p2 (-2) := by
  unfold p2; simp [Ideal.ofBits, Ideal.ieee, -EReal.coe_mul, -EReal.coe_pow]; try norm_num
theorem const_m1 : Ideal.ofBits .f32 0x3F000000#32 = p2 (-1) := by
  unfold p2; simp [Ideal.ofBits, Ideal.ieee, -EReal.coe_mul, -EReal.coe_pow]; try norm_num
theorem const_bottom : Ideal.ofBits .f32 0xFF800000#32 = ⊥ := by
  simp [Ideal.ofBits, Ideal.ieee]
theorem const_low : Ideal.ofBits .f32 0xC2FC0000#32 = (((-126 : ℤ) : ℝ) : EReal) := by
  simp [Ideal.ofBits, Ideal.ieee, -EReal.coe_mul]; try norm_num

/-! ## The scale of a ratio, and its inverse -/

/-- The scale that the search gives, and its inverse: 1 unless the ratio is a normal number. -/
def scaleOf (t : EReal) : EReal := if p2 (-126) ≤ t ∧ t ≤ big then found8 t * p2 1 else 1
def inverseOf (t : EReal) : EReal := if p2 (-126) ≤ t ∧ t ≤ big then half8 t else 1

/-- The exponent as a maximum over the exponents of the format: the largest `k + 1` for which `2 ^ k` is at most `t`. -/
def greatest (t : EReal) : EReal :=
  Finset.fold max ⊥ (fun x : Fin 254 => if p2 ((x.val : ℤ) - 126) ≤ t then ((((x.val : ℤ) - 126 : ℤ) : ℝ) : EReal) + 1 else (((-126 : ℤ) : ℝ) : EReal)) Finset.univ
def expOf (t : EReal) : EReal := if t < p2 (-126) ∨ big < t then 0 else greatest t

theorem greatest_eq {t : EReal} {L : ℤ} (ht : ∀ a, p2 a ≤ t ↔ a ≤ L) (h0 : -126 ≤ L) (h1 : L < 128) :
    greatest t = (((L + 1 : ℤ) : ℝ) : EReal) := by
  have e1 : ∀ a : ℤ, ((a : ℝ) : EReal) + 1 = (((a + 1 : ℤ) : ℝ) : EReal) := fun a => by
    rw [Int.cast_add, EReal.coe_add]; simp
  unfold greatest
  simp only [ht, e1]
  refine le_antisymm (Finset.fold_max_le _ |>.mpr ⟨bot_le, fun x _ => ?_⟩) (Finset.le_fold_max _ |>.mpr (Or.inr ⟨⟨(L + 126).toNat, by omega⟩, Finset.mem_univ _, ?_⟩))
  · split_ifs with h
    · exact EReal.coe_le_coe_iff.mpr (Int.cast_le.mpr (by omega))
    · exact EReal.coe_le_coe_iff.mpr (Int.cast_le.mpr (by omega))
  · have e : (((L + 126).toNat : ℕ) : ℤ) = L + 126 := Int.toNat_of_nonneg (by omega)
    simp only [e]
    rw [if_pos (by omega)]
    exact EReal.coe_le_coe_iff.mpr (Int.cast_le.mpr (by omega))

theorem exp2_zero : Ideal.exp2 0 = 1 := by
  have h := exp2_int 0
  rw [p2_zero] at h
  simpa using h

/-- The reference's scale is the search's, and so is its inverse. -/
theorem exp2_expOf (t : EReal) : Ideal.exp2 (expOf t) = scaleOf t ∧ Ideal.exp2 (0 - expOf t) = inverseOf t := by
  unfold expOf scaleOf inverseOf
  by_cases h : p2 (-126) ≤ t ∧ t ≤ big
  · obtain ⟨L, ht, h0, h1⟩ := exponent h.1 h.2
    obtain ⟨hf, hg⟩ := search ht h0 h1
    have hn : ¬ (t < p2 (-126) ∨ big < t) := by
      rintro (h' | h')
      · exact absurd h.1 (not_le.mpr h')
      · exact absurd h.2 (not_le.mpr h')
    rw [if_neg hn, if_pos h, if_pos h, greatest_eq ht h0 h1, hf, hg, p2_mul]
    refine ⟨exp2_int _, ?_⟩
    have e : (0 : EReal) - (((L + 1 : ℤ) : ℝ) : EReal) = (((-1 - L : ℤ) : ℝ) : EReal) := by
      rw [← EReal.coe_zero, ← EReal.coe_sub]
      congr 1
      push_cast
      ring
    rw [e]
    exact exp2_int _
  · have hn : t < p2 (-126) ∨ big < t := by
      by_contra hc
      exact h ⟨not_lt.mp fun h' => hc (Or.inl h'), not_lt.mp fun h' => hc (Or.inr h')⟩
    rw [if_pos hn, if_neg h, if_neg h]
    refine ⟨exp2_zero, ?_⟩
    rw [sub_zero]
    exact exp2_zero

end Cert.Exponent

end
-- ==== Proof.QAt.lean ====
/-
  The quantiser's stages read at an index, over the extended reals.
-/
import proofs.«01_k».proof.Proof.QLists
import proofs.«01_k».proof.Proof.QExp
import Idealize.ShloMosaic.Lib.Pointwise

noncomputable section

namespace Cert.QuantiserIdeal.Hand

open Cert.QuantiserIdeal Cert.QuantiserIdeal.Gen Cert.Exponent
open Idealize.ShloMosaic Idealize.ShloMosaic.TcCoe

/-! ## The search -/

variable (t : FVec Ideal S64x128 .f32) (r : Fin 64) (l : Fin 128)

theorem stepE_at (ef : FVec Ideal S64x128 .f32) (k : BitVec 32) :
    stepE t ef k (ix2 r l) = up (t (ix2 r l)) (ef (ix2 r l)) (Ideal.ofBits .f32 k) := by
  pointwise [stepE, fits, cst]
  rfl
theorem stepI_at (ef inv : FVec Ideal S64x128 .f32) (k j : BitVec 32) :
    stepI t ef inv k j (ix2 r l) = dn (t (ix2 r l)) (ef (ix2 r l)) (inv (ix2 r l)) (Ideal.ofBits .f32 k) (Ideal.ofBits .f32 j) := by
  pointwise [stepI, fits, cst]
  rfl

theorem e0_at : e0 (F := Ideal) (ix2 r l) = p2 (-126) := const_m126
theorem i0_at : i0 (F := Ideal) (ix2 r l) = p2 125 := const_125
theorem e1_at : e1 t (ix2 r l) = found1 (t (ix2 r l)) := by
  unfold e1 found1; rw [stepE_at, e0_at, const_126]
theorem i1_at : i1 t (ix2 r l) = half1 (t (ix2 r l)) := by
  unfold i1 half1; rw [stepI_at, e0_at, i0_at, const_126, const_m126]
theorem e2_at : e2 t (ix2 r l) = found2 (t (ix2 r l)) := by
  unfold e2 found2; rw [stepE_at, e1_at, const_64]
theorem i2_at : i2 t (ix2 r l) = half2 (t (ix2 r l)) := by
  unfold i2 half2; rw [stepI_at, e1_at, i1_at, const_64, const_m64]
theorem e3_at : e3 t (ix2 r l) = found3 (t (ix2 r l)) := by
  unfold e3 found3; rw [stepE_at, e2_at, const_32]
theorem i3_at : i3 t (ix2 r l) = half3 (t (ix2 r l)) := by
  unfold i3 half3; rw [stepI_at, e2_at, i2_at, const_32, const_m32]
theorem e4_at : e4 t (ix2 r l) = found4 (t (ix2 r l)) := by
  unfold e4 found4; rw [stepE_at, e3_at, const_16]
theorem i4_at : i4 t (ix2 r l) = half4 (t (ix2 r l)) := by
  unfold i4 half4; rw [stepI_at, e3_at, i3_at, const_16, const_m16]
theorem e5_at : e5 t (ix2 r l) = found5 (t (ix2 r l)) := by
  unfold e5 found5; rw [stepE_at, e4_at, const_8]
theorem i5_at : i5 t (ix2 r l) = half5 (t (ix2 r l)) := by
  unfold i5 half5; rw [stepI_at, e4_at, i4_at, const_8, const_m8]
theorem e6_at : e6 t (ix2 r l) = found6 (t (ix2 r l)) := by
  unfold e6 found6; rw [stepE_at, e5_at, const_4]
theorem i6_at : i6 t (ix2 r l) = half6 (t (ix2 r l)) := by
  unfold i6 half6; rw [stepI_at, e5_at, i5_at, const_4, const_m4]
theorem e7_at : e7 t (ix2 r l) = found7 (t (ix2 r l)) := by
  unfold e7 found7; rw [stepE_at, e6_at, const_2]
theorem i7_at : i7 t (ix2 r l) = half7 (t (ix2 r l)) := by
  unfold i7 half7; rw [stepI_at, e6_at, i6_at, const_2, const_m2]
theorem e8_at : e8 t (ix2 r l) = found8 (t (ix2 r l)) := by
  unfold e8 found8; rw [stepE_at, e7_at, const_1]
theorem i8_at : i8 t (ix2 r l) = half8 (t (ix2 r l)) := by
  unfold i8 half8; rw [stepI_at, e7_at, i7_at, const_1, const_m1]

/-- A selection by two comparisons. -/
theorem select_and (p q : Prop) [Decidable p] [Decidable q] (a b : EReal) :
    Scalar.select (IntOp.andi (BitVec.ofBool (decide p)) (BitVec.ofBool (decide q))) a b = if p ∧ q then a else b := by
  by_cases hp : p <;> by_cases hq : q <;> simp [hp, hq, Scalar.select, IntOp.andi]

theorem scale_at : scale t (ix2 r l) = scaleOf (t (ix2 r l)) := by
  pointwise [scale, normal, cst]
  rw [select_and, e8_at, const_m126, const_1]
  rfl
theorem inverse_at : inverse t (ix2 r l) = inverseOf (t (ix2 r l)) := by
  pointwise [inverse, normal, cst]
  rw [select_and, i8_at, const_m126]
  rfl

/-! ## The stored blocks -/

/-- A row maximum divided by the largest code. -/
noncomputable def ratioOf (a : EReal) : EReal := a * Ideal.ofBits .f32 0x3B124925#32
/-- A code: the value over the scale, within the codes' range. -/
noncomputable def codeOf (a v : EReal) : EReal :=
  min (Ideal.ofBits .f32 0x43E00000#32) (max (Ideal.ofBits .f32 0xC3E00000#32) (v * inverseOf (ratioOf a)))

theorem ratio_at (a : Vec Ideal S1x64x1 .f32) : ratio a (ix2 r l) = ratioOf (a (ix3 0 r 0)) := by
  pointwise [ratio, cst]
  rfl
theorem scaleBlock_at (a : Vec Ideal S1x64x1 .f32) : scaleBlock a (ix3 0 r l) = scaleOf (ratioOf (a (ix3 0 r 0))) := by
  pointwise [scaleBlock]
  rw [scale_at, ratio_at]
theorem codeBlock_at (a : Vec Ideal S1x64x1 .f32) (v : Vec Ideal S1x64x128 .f32) (n : Fin 63) :
    codeBlock a v (ix3 0 n l) = codeOf (a (ix3 0 ⟨n.val, by omega⟩ 0)) (v (ix3 0 ⟨n.val, by omega⟩ l)) := by
  pointwise [codeBlock, cst]
  rw [inverse_at, ratio_at]
  rfl

/-! ## The loads -/

variable (c : Dev nD) (fV : Bf (F := Ideal) c stV) (fA : Bf (F := Ideal) c stA)

/-- The arguments as the kernel loads them. -/
noncomputable def aA (p : Fin 16) (n : Fin 64) : EReal := stA.view.read (Elt Ideal) fA (ix3 p n 0)
noncomputable def aV (p : Fin 16) (n : Fin 64) (k : Fin 1280) : EReal := stV.view.read (Elt Ideal) fV (ix3 p n k)

theorem loadA_at (p : ℕ) (hp : p < 16) : loadA c fA p hp (ix3 0 r 0) = aA c fA ⟨p, hp⟩ r := by
  show stA.view.read (Elt Ideal) fA _ = stA.view.read (Elt Ideal) fA _
  congr 1
  funext a
  apply Fin.ext
  fin_cases a
  · show p + 1 * 0 = p; omega
  · show 0 + 1 * r.val = r.val; omega
  · rfl
theorem loadV_at (p k : ℕ) (hp : p < 16) (hk : k + 128 ≤ 1280) :
    loadV c fV p k hp hk (ix3 0 r l) = aV c fV ⟨p, hp⟩ r ⟨k + l.val, by omega⟩ := by
  show stV.view.read (Elt Ideal) fV _ = stV.view.read (Elt Ideal) fV _
  congr 1
  funext a
  apply Fin.ext
  fin_cases a
  · show p + 1 * 0 = p; omega
  · show 0 + 1 * r.val = r.val; omega
  · show k + 1 * l.val = k + l.val; omega

/-! ## The codes after the stores -/

/-- The codes as one function. -/
noncomputable def C : Vec Ideal S16x63x1280 .fp8e4m3 := fun y => codeOf (aA c fA (y 0) ⟨(y 1).val, by have := (y 1).isLt; show (y 1).val < 64; change (y 1).val < 63 at this; omega⟩)
  (aV c fV (y 0) ⟨(y 1).val, by have := (y 1).isLt; show (y 1).val < 64; change (y 1).val < 63 at this; omega⟩ (y 2))

/-- A store agrees with the codes. -/
def Agrees (q : View.Piece (Elt Ideal) S16x63x1280 .fp8e4m3) : Prop := ∀ x, q.2 x = C c fV fA (q.1.emb x)

theorem pieceD_agrees (p k : ℕ) (hp : p < 16) (hk : k + 128 ≤ 1280) : Agrees c fV fA (pieceD c fV fA p k hp hk) := by
  intro x
  obtain ⟨n, j, rfl⟩ : ∃ (n : Fin 63) (j : Fin 128), x = ix3 (0 : Fin 1) n j :=
    ⟨x 1, x 2, funext fun q => by fin_cases q <;> first | rfl | exact Subsingleton.elim (α := Fin 1) _ _⟩
  refine (codeBlock_at j (loadA c fA p hp) (loadV c fV p k hp hk) n).trans ?_
  rw [loadA_at, loadV_at]
  have e : (Rect.unit (s := S16x63x1280) ![p, 0, k] S1x63x128.size (inbD p k hp hk)).emb (ix3 (0 : Fin 1) n j) = ix3 ⟨p, hp⟩ n ⟨k + j.val, by omega⟩ := by
    funext a
    apply Fin.ext
    fin_cases a
    · show p + 1 * 0 = p; omega
    · show 0 + 1 * n.val = n.val; omega
    · show k + 1 * j.val = k + j.val; omega
  show _ = C c fV fA ((Rect.unit (s := S16x63x1280) ![p, 0, k] S1x63x128.size (inbD p k hp hk)).emb (ix3 (0 : Fin 1) n j))
  rw [e]
  rfl

theorem row10_agrees (p : ℕ) (hp : p < 16) {L} (h : ∀ q ∈ L, Agrees c fV fA q) : ∀ q ∈ row10 c fV fA p hp L, Agrees c fV fA q := by
  intro q hq
  unfold row10 at hq
  simp only [List.mem_cons] at hq
  rcases hq with rfl | rfl | rfl | rfl | rfl | rfl | rfl | rfl | rfl | rfl | hq
  on_goal 11 => exact h q hq
  all_goals exact pieceD_agrees _ _ _ _ _ _ _

/-- A piece of a row of ten is a piece of the list. -/
theorem mem_row10 (p k : ℕ) (hp : p < 16) (hk : k < 10) (L) : pieceD c fV fA p (128 * k) hp (by omega) ∈ row10 c fV fA p hp L := by
  unfold row10
  interval_cases k <;> simp
theorem sub_row10 (p : ℕ) (hp : p < 16) (L) : ∀ q ∈ L, q ∈ row10 c fV fA p hp L := by
  intro q hq
  unfold row10
  simp only [List.mem_cons]
  tauto

/-- The whole list: every piece agrees, and every position and block of channels has its piece. -/
def Full (m : ℕ) (L : List (View.Piece (Elt Ideal) S16x63x1280 .fp8e4m3)) : Prop :=
  (∀ q ∈ L, Agrees c fV fA q) ∧ ∀ p k (hp : p < 16) (hk : k < 10), p < m → pieceD c fV fA p (128 * k) hp (by omega) ∈ L
theorem full_row10 (m : ℕ) (hm : m < 16) {L} (h : Full c fV fA m L) : Full c fV fA (m + 1) (row10 c fV fA m hm L) := by
  refine ⟨row10_agrees c fV fA m hm h.1, fun p k hp hk hpm => ?_⟩
  by_cases e : p = m
  · subst e; exact mem_row10 c fV fA p k hp hk L
  · exact sub_row10 c fV fA m hm L _ (h.2 p k hp hk (by omega))
theorem full_nil : Full c fV fA 0 [] := ⟨fun q hq => absurd hq List.not_mem_nil, fun p k hp hk h => absurd h (by omega)⟩
theorem full_10 : Full c fV fA 1 (kernelRun.sl.HD_10 c fV fA) := by rw [HD_10_eq]; exact full_row10 c fV fA 0 _ (full_nil c fV fA)
theorem full_20 : Full c fV fA 2 (kernelRun.sl.HD_20 c fV fA) := by rw [HD_20_eq]; exact full_row10 c fV fA 1 _ (full_10 c fV fA)
theorem full_30 : Full c fV fA 3 (kernelRun.sl.HD_30 c fV fA) := by rw [HD_30_eq]; exact full_row10 c fV fA 2 _ (full_20 c fV fA)
theorem full_40 : Full c fV fA 4 (kernelRun.sl.HD_40 c fV fA) := by rw [HD_40_eq]; exact full_row10 c fV fA 3 _ (full_30 c fV fA)
theorem full_50 : Full c fV fA 5 (kernelRun.sl.HD_50 c fV fA) := by rw [HD_50_eq]; exact full_row10 c fV fA 4 _ (full_40 c fV fA)
theorem full_60 : Full c fV fA 6 (kernelRun.sl.HD_60 c fV fA) := by rw [HD_60_eq]; exact full_row10 c fV fA 5 _ (full_50 c fV fA)
theorem full_70 : Full c fV fA 7 (kernelRun.sl.HD_70 c fV fA) := by rw [HD_70_eq]; exact full_row10 c fV fA 6 _ (full_60 c fV fA)
theorem full_80 : Full c fV fA 8 (kernelRun.sl.HD_80 c fV fA) := by rw [HD_80_eq]; exact full_row10 c fV fA 7 _ (full_70 c fV fA)
theorem full_90 : Full c fV fA 9 (kernelRun.sl.HD_90 c fV fA) := by rw [HD_90_eq]; exact full_row10 c fV fA 8 _ (full_80 c fV fA)
theorem full_100 : Full c fV fA 10 (kernelRun.sl.HD_100 c fV fA) := by rw [HD_100_eq]; exact full_row10 c fV fA 9 _ (full_90 c fV fA)
theorem full_110 : Full c fV fA 11 (kernelRun.sl.HD_110 c fV fA) := by rw [HD_110_eq]; exact full_row10 c fV fA 10 _ (full_100 c fV fA)
theorem full_120 : Full c fV fA 12 (kernelRun.sl.HD_120 c fV fA) := by rw [HD_120_eq]; exact full_row10 c fV fA 11 _ (full_110 c fV fA)
theorem full_130 : Full c fV fA 13 (kernelRun.sl.HD_130 c fV fA) := by rw [HD_130_eq]; exact full_row10 c fV fA 12 _ (full_120 c fV fA)
theorem full_140 : Full c fV fA 14 (kernelRun.sl.HD_140 c fV fA) := by rw [HD_140_eq]; exact full_row10 c fV fA 13 _ (full_130 c fV fA)
theorem full_150 : Full c fV fA 15 (kernelRun.sl.HD_150 c fV fA) := by rw [HD_150_eq]; exact full_row10 c fV fA 14 _ (full_140 c fV fA)
theorem full_160 : Full c fV fA 16 (kernelRun.sl.HD_160 c fV fA) := by rw [HD_160_eq]; exact full_row10 c fV fA 15 _ (full_150 c fV fA)

variable (gC : Bf (F := Ideal) c scC) (gD : Bf (F := Ideal) c scD) (gE : Bf (F := Ideal) c scE) (gG : Bf (F := Ideal) c scG)
  (fC : Bf (F := Ideal) c hbC) (fE : Bf (F := Ideal) c hbE)

/-- What the copy of the codes carries. -/
theorem codes_at (p : Fin 16) (n : Fin 63) (k : Fin 1280) :
    kernelRun.sl.dma848 c fV fA gD (ix3 p n k) = C c fV fA (ix3 p n k) := by
  show View.read (Elt Ideal) scD.view (scD.view.writes (Elt Ideal) gD (kernelRun.sl.HD_160 c fV fA)) (ix3 p n k) = _
  have hF := full_160 c fV fA
  have hk := k.isLt
  have hmem : (ix3 p n k : S16x63x1280.Idx) ∈ (pieceD (F := Ideal) c fV fA p.val (128 * (k.val / 128)) p.isLt (by omega)).1.set := by
    unfold pieceD
    rw [Rect.mem_set_unit]
    intro q
    fin_cases q
    · show p.val ≤ p.val ∧ p.val < p.val + 1; omega
    · show 0 ≤ n.val ∧ n.val < 0 + 63; omega
    · show 128 * (k.val / 128) ≤ k.val ∧ k.val < 128 * (k.val / 128) + 128; omega
  have hex : ∃ q ∈ kernelRun.sl.HD_160 c fV fA, (ix3 p n k : S16x63x1280.Idx) ∈ q.1.set :=
    ⟨_, hF.2 p.val (k.val / 128) p.isLt (by omega) p.isLt, hmem⟩
  rw [View.read_writes_apply_eq_canon _ _ _ _ hex]
  exact View.canon_apply_of_pieces (C c fV fA) _ hF.1 _ hex

/-! ## The scales -/

/-- The scales over the lanes, as one function. -/
noncomputable def E : Vec Ideal S16x64x128 .f32 := fun y => scaleOf (ratioOf (aA c fA (y 0) (y 1)))

theorem pieceE_agrees (p : ℕ) (hp : p < 16) : ∀ x, (pieceE c fA p hp).2 x = E c fA ((pieceE c fA p hp).1.emb x) := by
  intro x
  obtain ⟨n, j, rfl⟩ : ∃ (n : Fin 64) (j : Fin 128), x = ix3 (0 : Fin 1) n j :=
    ⟨x 1, x 2, funext fun q => by fin_cases q <;> first | rfl | exact Subsingleton.elim (α := Fin 1) _ _⟩
  refine (scaleBlock_at n j (loadA c fA p hp)).trans ?_
  rw [loadA_at]
  have e : (Rect.unit (s := S16x64x128) ![p, 0, 0] S1x64x128.size (inbE p hp)).emb (ix3 (0 : Fin 1) n j) = ix3 ⟨p, hp⟩ n j := by
    funext a
    apply Fin.ext
    fin_cases a
    · show p + 1 * 0 = p; omega
    · show 0 + 1 * n.val = n.val; omega
    · show 0 + 1 * j.val = j.val; omega
  show _ = E c fA ((Rect.unit (s := S16x64x128) ![p, 0, 0] S1x64x128.size (inbE p hp)).emb (ix3 (0 : Fin 1) n j))
  rw [e]
  rfl

theorem HE_all : kernelRun.sl.HE_16 c fA = [pieceE c fA 15 (by omega), pieceE c fA 14 (by omega), pieceE c fA 13 (by omega), pieceE c fA 12 (by omega),
    pieceE c fA 11 (by omega), pieceE c fA 10 (by omega), pieceE c fA 9 (by omega), pieceE c fA 8 (by omega), pieceE c fA 7 (by omega), pieceE c fA 6 (by omega),
    pieceE c fA 5 (by omega), pieceE c fA 4 (by omega), pieceE c fA 3 (by omega), pieceE c fA 2 (by omega), pieceE c fA 1 (by omega), pieceE c fA 0 (by omega)] := by
  rw [HE_16_eq, HE_15_eq, HE_14_eq, HE_13_eq, HE_12_eq, HE_11_eq, HE_10_eq, HE_9_eq, HE_8_eq, HE_7_eq, HE_6_eq, HE_5_eq, HE_4_eq, HE_3_eq, HE_2_eq, HE_1_eq]

/-- One position's scales, read back from the scratch. -/
noncomputable def loadE (p : ℕ) (hp : p < 16) : Vec Ideal S1x64x128 .f32 :=
  scE.view.readCov (kernelRun.sl.HE_16 c fA) (Rect.unit (s := S16x64x128) ![p, 0, 0] S1x64x128.size (inbE p hp)).toLoadRect

theorem loadE_at (p : ℕ) (hp : p < 16) : loadE c fA p hp (ix3 0 r l) = scaleOf (ratioOf (aA c fA ⟨p, hp⟩ r)) := by
  unfold loadE
  rw [View.readCov_eq_canon']
  have e : (Rect.unit (s := S16x64x128) ![p, 0, 0] S1x64x128.size (inbE p hp)).toLoadRect.idx (ix3 0 r l) = ix3 ⟨p, hp⟩ r l := by
    funext a
    apply Fin.ext
    fin_cases a
    · show p + 1 * 0 = p; omega
    · show 0 + 1 * r.val = r.val; omega
    · show 0 + 1 * l.val = l.val; omega
  show View.canon _ _ = _
  rw [e]
  have hmem : (ix3 ⟨p, hp⟩ r l : S16x64x128.Idx) ∈ (pieceE (F := Ideal) c fA p hp).1.set := by
    unfold pieceE
    rw [Rect.mem_set_unit]
    intro q
    fin_cases q
    · show p ≤ p ∧ p < p + 1; omega
    · show 0 ≤ r.val ∧ r.val < 0 + 64; omega
    · show 0 ≤ l.val ∧ l.val < 0 + 128; omega
  refine (View.canon_apply_of_pieces (E c fA) _ ?_ _ ?_).trans rfl
  · rw [HE_all]
    intro q hq
    simp only [List.mem_cons, List.not_mem_nil, or_false] at hq
    rcases hq with rfl | rfl | rfl | rfl | rfl | rfl | rfl | rfl | rfl | rfl | rfl | rfl | rfl | rfl | rfl | rfl <;> exact pieceE_agrees c fA _ _
  · refine ⟨_, ?_, hmem⟩
    rw [HE_all]
    interval_cases p <;> simp

/-- The lanes of one position, over the lanes gathered before. -/
noncomputable def lane (b : BitVec 32) (x : Vec Ideal S1x64x128 .f32) (acc : FVec Ideal S64x128 .f32) : FVec Ideal S64x128 .f32 :=
  select (cmpi .eq kernelRun.sl.v3904 (broadcast S64x128 b)) (shapeCast S64x128 x shapeCasts_S1x64x128_S64x128) acc

theorem select_eq (x y : BitVec 32) (a b : EReal) : Scalar.select (IntOp.cmpi .eq x y) a b = if x = y then a else b := by
  by_cases h : x = y
  · subst h; simp [Scalar.select, IntOp.cmpi]
  · have hb : (x == y) = false := beq_eq_false_iff_ne.mpr h
    simp [h, hb, Scalar.select, IntOp.cmpi]

theorem lane_at (b : BitVec 32) (x : Vec Ideal S1x64x128 .f32) (acc : FVec Ideal S64x128 .f32) :
    lane b x acc (ix2 r l) = if BitVec.ofNat 32 l.val = b then x (ix3 0 r l) else acc (ix2 r l) := by
  pointwise [lane, kernelRun.sl.v3904]
  rw [select_eq]

/-- The lanes of the first positions gathered. -/
noncomputable def gather : FVec Ideal S64x128 .f32 :=
  lane 15#32 (loadE c fA 15 (by omega)) (lane 14#32 (loadE c fA 14 (by omega)) (lane 13#32 (loadE c fA 13 (by omega)) (lane 12#32 (loadE c fA 12 (by omega))
  (lane 11#32 (loadE c fA 11 (by omega)) (lane 10#32 (loadE c fA 10 (by omega)) (lane 9#32 (loadE c fA 9 (by omega)) (lane 8#32 (loadE c fA 8 (by omega))
  (lane 7#32 (loadE c fA 7 (by omega)) (lane 6#32 (loadE c fA 6 (by omega)) (lane 5#32 (loadE c fA 5 (by omega)) (lane 4#32 (loadE c fA 4 (by omega))
  (lane 3#32 (loadE c fA 3 (by omega)) (lane 2#32 (loadE c fA 2 (by omega)) (lane 1#32 (loadE c fA 1 (by omega)) (lane 0#32 (loadE c fA 0 (by omega)) (cst 0#32))))))))))))))))

theorem gather_at (p : Fin 16) : gather c fA (ix2 r ⟨p.val, by omega⟩) = scaleOf (ratioOf (aA c fA p r)) := by
  unfold gather
  simp only [lane_at, loadE_at]
  fin_cases p <;> simp

/-- The gathered scales, transposed. -/
noncomputable def turned (acc : FVec Ideal S64x128 .f32) : FVec Ideal S16x63 .f32 :=
  shapeCast S16x63 (extractStridedSlice S16x63 ![0, 0] (transpose S128x128 [1, 0]
    (concatenate S128x128 0 [⟨S64x128, acc⟩, ⟨S64x128, cst 0#32⟩] concatenates_S64x128_S64x128_S128x128_d0)
    transposes_S128x128_p1_0_S128x128) slices_S128x128_o0_0_S16x63) shapeCasts_S16x63_S16x63
theorem turned_at (acc : FVec Ideal S64x128 .f32) (p : Fin 16) (n : Fin 63) : turned acc (ix2 p n) = acc (ix2 ⟨n.val, by omega⟩ ⟨p.val, by omega⟩) := by
  pointwise [turned, cst]
  rw [dif_pos (by omega)]

set_option maxRecDepth 100000 in
theorem HG_1_eq : kernelRun.sl.HG_1 c fA = [⟨Rect.unit (s := S16x63) ![0, 0] S16x63.size inb_S16x63_S16x63_0_0, turned (gather c fA)⟩] := rfl

/-- What the copy of the scales carries. -/
theorem scales_at (p : Fin 16) (n : Fin 63) :
    kernelRun.sl.dma866 c fA gG (ix2 p n) = scaleOf (ratioOf (aA c fA p ⟨n.val, by omega⟩)) := by
  show View.read (Elt Ideal) scG.view (scG.view.writes (Elt Ideal) gG (kernelRun.sl.HG_1 c fA)) (ix2 p n) = _
  rw [HG_1_eq]
  have e : (Rect.unit (s := S16x63) ![0, 0] S16x63.size inb_S16x63_S16x63_0_0).emb (ix2 p n) = ix2 p n := by
    funext a
    apply Fin.ext
    fin_cases a
    · show 0 + 1 * p.val = p.val; omega
    · show 0 + 1 * n.val = n.val; omega
  have hex : ∃ q ∈ [(⟨Rect.unit (s := S16x63) ![0, 0] S16x63.size inb_S16x63_S16x63_0_0, turned (gather c fA)⟩ : View.Piece (Elt Ideal) S16x63 .f32)],
      (ix2 p n : S16x63.Idx) ∈ q.1.set := by
    refine ⟨_, List.mem_singleton.mpr rfl, ?_⟩
    rw [Rect.mem_set_unit]
    intro q
    fin_cases q
    · show 0 ≤ p.val ∧ p.val < 0 + 16; omega
    · show 0 ≤ n.val ∧ n.val < 0 + 63; omega
  rw [View.read_writes_apply_eq_canon _ _ _ _ hex]
  refine (View.canon_apply_of_pieces (turned (gather c fA)) _ ?_ _ hex).trans ?_
  · intro q hq x
    rw [List.mem_singleton] at hq
    subst hq
    obtain ⟨i, j, rfl⟩ : ∃ (i : Fin 16) (j : Fin 63), x = ix2 i j := ⟨x 0, x 1, funext fun q => by fin_cases q <;> rfl⟩
    show turned (gather c fA) (ix2 i j) = turned (gather c fA) ((Rect.unit (s := S16x63) ![0, 0] S16x63.size inb_S16x63_S16x63_0_0).emb (ix2 i j))
    congr 1
    funext a
    apply Fin.ext
    fin_cases a
    · show i.val = 0 + 1 * i.val; omega
    · show j.val = 0 + 1 * j.val; omega
  · rw [turned_at]
    exact gather_at ⟨n.val, by omega⟩ c fA p

/-! ## The results -/

theorem codes_result : (kernelRun (F := Ideal) c fV fA gC gD gE gG fC fE).1.1 = C c fV fA := by
  have e : (kernelRun (F := Ideal) c fV fA gC gD gE gG fC fE).1.1 = View.write (Elt Ideal) hbC.view fC (kernelRun.sl.dma848 c fV fA gD) Finset.univ := rfl
  rw [e, View.write_whole_univ]
  funext y
  obtain ⟨p, n, k, rfl⟩ : ∃ (p : Fin 16) (n : Fin 63) (k : Fin 1280), y = ix3 p n k := ⟨y 0, y 1, y 2, funext fun q => by fin_cases q <;> rfl⟩
  exact codes_at c fV fA gD p n k

theorem scales_result : (kernelRun (F := Ideal) c fV fA gC gD gE gG fC fE).1.2
    = (fun y : S16x63.Idx => scaleOf (ratioOf (aA c fA (y 0) ⟨(y 1).val, by have := (y 1).isLt; show (y 1).val < 64; change (y 1).val < 63 at this; omega⟩))) := by
  have e : (kernelRun (F := Ideal) c fV fA gC gD gE gG fC fE).1.2 = View.write (Elt Ideal) hbE.view fE (kernelRun.sl.dma866 c fA gG) Finset.univ := rfl
  rw [e, View.write_whole_univ]
  funext y
  obtain ⟨p, n, rfl⟩ : ∃ (p : Fin 16) (n : Fin 63), y = ix2 p n := ⟨y 0, y 1, funext fun q => by fin_cases q <;> rfl⟩
  exact scales_at c fA gG p n

end Cert.QuantiserIdeal.Hand

end
-- ==== Proof.QLaunch.lean ====
/-
  The quantiser over any float operations, launched: it terminates, its two arguments end as they began, its two results
  end at the contents that the body's run found, and every semaphore ends at zero.
-/
import proofs.«01_k».proof.Proof.Results
import proofs.«01_k».proof.Proof.QRun
import proofs.«01_k».proof.Proof.Gen.QuantiserIdeal.Frame

noncomputable section

namespace Cert.QuantiserIdeal.Hand

open Cert.QuantiserIdeal Cert.QuantiserIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The two semaphore cells of the body's own transfers. -/
abbrev osem0 : Fin 2 → SemLoc sig := fun j => SemLoc.dma ⟨j.val + 2, Nat.add_lt_add_right j.isLt 2⟩
theorem ownSemFacts0 : Pipeline.OwnSemFacts spec0 osem0 := by decide
theorem ownSems0_cells (c : Dev nD) :
    (Pipeline.ownSems0 (Ix := Unit) (Name := ℕ) (U := Pipeline.UD sig nD τ) (Lvl := ℕ) (Val := Elt F) (τ := τ) osem0 c : sProp 𝕄)
      = cells0 c := by
  rw [Pipeline.ownSems0_eq_of_list c osem0 [0, 1] (by decide) (by decide)]; rfl

/-- No argument is left in place; the two results, which the body writes. -/
def H0 : Finset (Ref sig .tc) := ∅
def R0 : Finset (Ref sig .tc) := {main_v0_0, main_v0_1}
theorem H0_sub : H0 ⊆ Pipeline.restRefs sig spec0 := by decide
theorem R0_sub : R0 ⊆ Pipeline.restRefs sig spec0 \ H0 := by decide
theorem H0_pts (c : Dev nD) (f : (b : Ref sig .tc) → Buf (Elt F) ((c : Thread nD τ).loc b)) :
    (bigSep H0 (fun b => ((c : Thread nD τ).loc b) ↦{fullShare} f b) : sProp 𝕄) = iprop(emp) := by
  unfold H0; rw [BI.bigSep_empty]; rfl
theorem R0_pts (c : Dev nD) (f : (b : Ref sig .tc) → Buf (Elt F) ((c : Thread nD τ).loc b)) :
    (bigSep R0 (fun b => ((c : Thread nD τ).loc b) ↦{fullShare} f b) : sProp 𝕄)
      = iprop(pt c hbC (f main_v0_0) ∗ pt c hbE (f main_v0_1)) := by
  rw [BI.bigSep_eq_bigSepL_of_eq [main_v0_0, main_v0_1] (by decide) (by decide)]; rfl

/-- What the body's run leaves in the results, from some contents of the scratch. -/
def Ends (c : Dev nD) (U : Cert.Results.Contents τ sig (Elt F) c) : Prop :=
  ∃ (fV : Bf (F := F) c stV) (fA : Bf (F := F) c stA) (gC : Bf (F := F) c scC) (gD : Bf (F := F) c scD) (gE : Bf (F := F) c scE) (gG : Bf (F := F) c scG),
    stV.view.read (Elt F) fV = iblk m c 0 t0_0 ∧ stA.view.read (Elt F) fA = iblk m c 1 t0_0
    ∧ U main_v0_0 = (kernelRun (F := F) c fV fA gC gD gE gG (V m c main_v0_0) (V m c main_v0_1)).1.1
    ∧ U main_v0_1 = (kernelRun (F := F) c fV fA gC gD gE gG (V m c main_v0_0) (V m c main_v0_1)).1.2

/-- The contents that are the launch's but for the two results. -/
def after (c : Dev nD) (R : Bf (F := F) c hbC × Bf (F := F) c hbE) : Cert.Results.Contents τ sig (Elt F) c :=
  Function.update (Function.update (V m c) main_v0_0 R.1) main_v0_1 R.2
theorem after_C (c : Dev nD) (R) : after m c R main_v0_0 = R.1 := by
  unfold after; rw [Function.update_of_ne (by decide), Function.update_self]
theorem after_E (c : Dev nD) (R) : after m c R main_v0_1 = R.2 := by
  unfold after; rw [Function.update_self]

/-- The invariant before the body, and after it. -/
abbrev Inv0 (c : Dev nD) (Q : Cert.Results.Contents τ sig (Elt F) c → Prop) : sProp 𝕄 :=
  Cert.Results.Inv osem0 spec0 H0 R0 c (V m c) Q

/-- The proof data of the one pipeline on core `c`: the staged arguments as launched; the invariant before the body and
    after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := if t.val = 0 then Inv0 m c (fun U => U = V m c) else Inv0 m c (Ends m c)
  q _ := fullShare
  owed _ := 0

theorem A_eq (c : Dev nD) (w : Fin cfg0.W) : (dats (F := F) m 0 c).A w = V m c (Pipeline.arrRef spec0 w) := by
  dsimp only [dats]
theorem after0_0 (c : Dev nD) (t : Fin cfg0.N) : (dats (F := F) m 0 c).after 0 t = iblk m c 0 t := by dsimp only [dats]
theorem after0_1 (c : Dev nD) (t : Fin cfg0.N) : (dats (F := F) m 0 c).after 1 t = iblk m c 1 t := by dsimp only [dats]

/-- What a window's buffer holds before the body. -/
theorem before0_0 (c : Dev nD) (t : Fin cfg0.N) (d) : (dats (F := F) m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats (F := F) m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- The body on the whole buffers. -/
abbrev theBody : Prog (TpuEff nD τ sig (Elt F) Λ₀ .tc) PUnit :=
  cc0_winograd_fp8_quantise stV (Memref.isWhole_whole _) stA (Memref.isWhole_whole _) hbC (Memref.isWhole_whole _)
    hbE (Memref.isWhole_whole _) scC (Memref.isWhole_whole _) scD (Memref.isWhole_whole _)
    scE (Memref.isWhole_whole _) scG (Memref.isWhole_whole _) cc0_scratch4 cc0_scratch5

theorem sound_body (c : Dev nD) (fV : Bf (F := F) c stV) (fA : Bf (F := F) c stA)
    (hV : stV.view.read (Elt F) fV = iblk m c 0 t0_0) (hA : stA.view.read (Elt F) fA = iblk m c 1 t0_0) :
    iprop(Inv0 m c (fun U => U = V m c) ∗ (∃ W, owes (c : Thread nD τ) 0 W) ∗ pt c stV fV ∗ pt c stA fA)
      ⊢ wp frame (wpE (defs₀ (F := F)) Variants.none c none) Set.univ (theBody (F := F))
        (fun _ => iprop(Inv0 m c (Ends m c) ∗ (∃ W', owes (c : Thread nD τ) 0 W') ∗ pt c stV fV ∗ pt c stA fA)) := by
  unfold Inv0 Cert.Results.Inv
  simp only [H0_pts, R0_pts]
  rw [scopedRest0_eq, ownSems0_cells]
  iintro ⟨⟨⟨⟨%gC, HC⟩, ⟨%gD, HD⟩, ⟨%gE, HE⟩, ⟨%gG, HG⟩⟩, Hg, ⟨Hq0, Hq1⟩, He, ⟨%U, %hU, HbC, HbE⟩⟩, ⟨%W, HO⟩, HV, HA⟩
  subst hU
  generalize hK : kernelRun (F := F) c fV fA gC gD gE gG (V m c main_v0_0) (V m c main_v0_1) = K
  obtain ⟨K1, K2⟩ := K
  iapply (K2 W _)
  isplitl [HV]; · iexact HV
  isplitl [HA]; · iexact HA
  isplitl [HbC]; · iexact HbC
  isplitl [HbE]; · iexact HbE
  isplitl [HC]; · iexact HC
  isplitl [HD]; · iexact HD
  isplitl [HE]; · iexact HE
  isplitl [HG]; · iexact HG
  isplitl [Hq0 Hq1]
  · isplitl [Hq0]; · iexact Hq0
    iexact Hq1
  isplitl [HO]; · iexact HO
  iintro ⟨HV, HA, HbC, HbE, HC, HD, HE, HG, ⟨Hq0, Hq1⟩, HO⟩
  isplitr [HO HV HA]
  · isplitl [HC HD HE HG]
    · isplitl [HC]; · iexact HC
      isplitl [HD]; · iexact HD
      isplitl [HE]; · iexact HE
      iexact HG
    isplitl [Hg]; · iexact Hg
    isplitl [Hq0 Hq1]
    · isplitl [Hq0]; · iexact Hq0
      iexact Hq1
    isplitl [He]; · iexact He
    iexists (after m c K1)
    isplitr
    · ipureintro
      exact ⟨fV, fA, gC, gD, gE, gG, hV, hA, by rw [after_C, hK], by rw [after_E, hK]⟩
    rw [after_C, after_E]
    isplitl [HbC]; · iexact HbC
    iexact HbE
  isplitl [HO]; · iexact HO
  isplitl [HV]; · iexact HV
  iexact HA

theorem dats_first (c : Dev nD) : (dats (F := F) m 0 c).Φ t0_0.castSucc = Inv0 m c (fun U => U = V m c) := by
  show (if ((t0_0 : Fin cfg0.N).castSucc).val = 0 then Inv0 m c (fun U => U = V m c) else Inv0 m c (Ends m c)) = _
  exact if_pos rfl
theorem dats_last (c : Dev nD) : (dats (F := F) m 0 c).Φ t0_0.succ = Inv0 m c (Ends m c) := by
  show (if ((t0_0 : Fin cfg0.N).succ).val = 0 then Inv0 m c (fun U => U = V m c) else Inv0 m c (Ends m c)) = _
  exact if_neg (by decide)

theorem defs₀_row (t : Fin cfg0.N) :
    defs₀ (F := F) .tc cfg0.body (cfg0.bodyArgs t (cfg0.slots t)) = bodyAt0 t := by
  unfold defs₀; rw [Defs.onTc_tc]

theorem st0_0_eq : st0_0 t0_0 = stV := rfl
theorem st0_1_eq : st0_1 t0_0 = stA := rfl
theorem body_eq : bodyAt0 (F := F) t0_0 = theBody := rfl

theorem owesAt_first (c : Dev nD) : (dats (F := F) m 0 c).owesAt () t0_0.castSucc ⊢ iprop(∃ W, owes (c : Thread nD τ) 0 W) := by
  unfold Dat.owesAt Pipeline.owesWithin
  iintro ⟨%W, -, HO⟩
  iexists W
  iexact HO

theorem owesAt_last (c : Dev nD) : iprop(∃ W, owes (c : Thread nD τ) 0 W) ⊢ (dats (F := F) m 0 c).owesAt () t0_0.succ := by
  unfold Dat.owesAt Pipeline.owesWithin
  iintro ⟨%W, HO⟩
  iexists W
  isplitr
  · ipureintro; exact fun _ _ => Or.inl trivial
  iexact HO

/-- Two existentials opened. -/
theorem open_two {A B : Type} {I O R : sProp 𝕄} {φ : A → Prop} {ψ : B → Prop} {P : A → sProp 𝕄} {Q : B → sProp 𝕄}
    (h : ∀ a b, φ a → ψ b → iprop(I ∗ O ∗ P a ∗ Q b) ⊢ R) :
    iprop(I ∗ O ∗ (∃ a, ⌜φ a⌝ ∗ P a) ∗ (∃ b, ⌜ψ b⌝ ∗ Q b)) ⊢ R := by
  iintro ⟨HI, HO, ⟨%a, %ha, HA⟩, ⟨%b, %hb, HB⟩⟩
  iapply (h a b ha hb)
  isplitl [HI]; · iexact HI
  isplitl [HO]; · iexact HO
  isplitl [HA]; · iexact HA
  iexact HB

/-- Two existentials closed. -/
theorem close_two {A B : Type} {I O : sProp 𝕄} {φ : A → Prop} {ψ : B → Prop} {P : A → sProp 𝕄} {Q : B → sProp 𝕄}
    (a : A) (b : B) (ha : φ a) (hb : ψ b) :
    iprop(I ∗ O ∗ P a ∗ Q b) ⊢ iprop(I ∗ O ∗ (∃ a, ⌜φ a⌝ ∗ P a) ∗ (∃ b, ⌜ψ b⌝ ∗ Q b)) := by
  iintro ⟨HI, HO, HA, HB⟩
  isplitl [HI]; · iexact HI
  isplitl [HO]; · iexact HO
  isplitl [HA]
  · iexists a
    isplitr
    · ipureintro; exact ha
    iexact HA
  iexists b
  isplitr
  · ipureintro; exact hb
  iexact HB

/-- A whole buffer's elements. -/
theorem stV_set : (stV : Memref sig .tc _ _ _).view.set = Finset.univ := View.set_whole _
theorem stA_set : (stA : Memref sig .tc _ _ _).view.set = Finset.univ := View.set_whole _

/-- The body's triple over what the windows' buffers read. -/
theorem sound_owned (c : Dev nD) :
    iprop(Inv0 m c (fun U => U = V m c) ∗ (∃ W, owes (c : Thread nD τ) 0 W)
      ∗ owns (c : Thread nD τ) stV fullShare (iblk m c 0 t0_0) ∗ owns (c : Thread nD τ) stA fullShare (iblk m c 1 t0_0))
      ⊢ wp frame (wpE (defs₀ (F := F)) Variants.none c none) Set.univ (theBody (F := F))
        (fun _ => iprop(Inv0 m c (Ends m c) ∗ (∃ W, owes (c : Thread nD τ) 0 W)
          ∗ owns (c : Thread nD τ) stV fullShare (iblk m c 0 t0_0) ∗ owns (c : Thread nD τ) stA fullShare (iblk m c 1 t0_0))) := by
  unfold owns
  rw [stV_set, stA_set]
  refine open_two fun fV fA hV hA => ?_
  exact triple_restated (sound_body m c fV fA hV hA) rfl .rfl fun _ => close_two fV fA hV hA

/-- An existential over nothing used. -/
theorem drop_ex {A : Type} {P : sProp 𝕄} : iprop(∃ _a : A, P) ⊢ P := by
  iintro ⟨%a, H⟩
  iexact H

/-- Three of four parts weakened. -/
theorem sep_four {I O O' A A' B B' : sProp 𝕄} (hO : O ⊢ O') (hA : A ⊢ A') (hB : B ⊢ B') :
    iprop(I ∗ O ∗ A ∗ B) ⊢ iprop(I ∗ O' ∗ A' ∗ B') := by
  iintro ⟨HI, HO, HA, HB⟩
  isplitl [HI]; · iexact HI
  isplitl [HO]
  · iapply hO; iexact HO
  isplitl [HA]
  · iapply hA; iexact HA
  iapply hB; iexact HB

/-- The body's triple in the library's form. -/
theorem sound_point (c : Dev nD) :
    iprop((dats m 0 c).Φ t0_0.castSucc ∗ (dats m 0 c).owesAt () t0_0.castSucc
      ∗ (∃ d, owns (c : Thread nD τ) (st0_0 t0_0) fullShare ((dats m 0 c).before 0 t0_0 d))
      ∗ (∃ d, owns (c : Thread nD τ) (st0_1 t0_0) fullShare ((dats m 0 c).before 1 t0_0 d)))
      ⊢ wp frame (wpE (defs₀ (F := F)) Variants.none c none) Set.univ (bodyAt0 t0_0)
        (fun _ => iprop((dats m 0 c).Φ t0_0.succ ∗ (dats m 0 c).owesAt () t0_0.succ
          ∗ owns (c : Thread nD τ) (st0_0 t0_0) fullShare ((dats m 0 c).after 0 t0_0)
          ∗ owns (c : Thread nD τ) (st0_1 t0_0) fullShare ((dats m 0 c).after 1 t0_0))) := by
  rw [dats_first, dats_last, after0_0, after0_1]
  simp only [before0_0, before0_1]
  rw [body_eq]
  exact triple_restated (sound_owned m c) rfl (sep_four (owesAt_first m c) drop_ex drop_ex)
    fun _ => sep_four (owesAt_last m c) .rfl .rfl

theorem body_obligation (c : Dev nD) : BodyObligation (dats (F := F) m 0 c) (defs₀ (F := F)) Variants.none () Set.univ := fun t => by
  rw [bigSep_W0, bigSep_W0, defs₀_row, fin_N0 t]
  exact triple_restated (sound_point m c) rfl .rfl fun _ => .rfl

/-- The kernel's run: the arguments end as they began, the results at what the body's run found, the counters at zero. -/
theorem run_main : θ_run defs (onTc (τ := τ) (main (F := F))) ⟨m, fun _ => 0, ρ⟩
    (fun r => (∀ c : Dev nD, (∀ b ∈ H0, r.2.mem ((c.tc : Thread nD τ).loc b) = V m c b)
      ∧ (∃ U, Ends m c U ∧ ∀ b ∈ R0, r.2.mem ((c.tc : Thread nD τ).loc b) = U b)
      ∧ ∀ w, r.2.mem ((cfg0.spec w).arr.view.loc (c.tc : Thread nD τ)) = (dats m 0 c).arrAt w cfg0.N) ∧ r.2.sem = fun _ => 0) :=
  Cert.Results.θ_run_results cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (Q := Ends m) (hmain := Pipeline.hmain_region cfgs 0 defs₀ Variants.none m main fun c => (main_chain c).trans rfl) (hA := fun _ _ => rfl)
    (hin := fun _ => .rfl) (hout := fun _ => .rfl)

/-- The frame, beside the results. -/
theorem run_all : θ_run defs (onTc (τ := τ) (main (F := F))) ⟨m, fun _ => 0, ρ⟩ (fun r => (∀ c : Dev nD,
      (∃ (fV : Bf (F := F) c stV) (fA : Bf (F := F) c stA) (gC : Bf (F := F) c scC) (gD : Bf (F := F) c scD) (gE : Bf (F := F) c scE) (gG : Bf (F := F) c scG),
        stV.view.read (Elt F) fV = iblk m c 0 t0_0 ∧ stA.view.read (Elt F) fA = iblk m c 1 t0_0
        ∧ r.2.mem ((c.tc : Thread nD τ).loc main_v0_0) = (kernelRun (F := F) c fV fA gC gD gE gG (V m c main_v0_0) (V m c main_v0_1)).1.1
        ∧ r.2.mem ((c.tc : Thread nD τ).loc main_v0_1) = (kernelRun (F := F) c fV fA gC gD gE gG (V m c main_v0_0) (V m c main_v0_1)).1.2)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine (θ_run defs _ _).mono (fun r h => ⟨fun c => ?_, h.2⟩) (run_main m ρ)
  obtain ⟨h1, ⟨U, ⟨fV, fA, gC, gD, gE, gG, hV, hA, hU1, hU2⟩, h2⟩, h3⟩ := h.1 c
  exact ⟨⟨fV, fA, gC, gD, gE, gG, hV, hA, (h2 _ (by decide)).trans hU1, (h2 _ (by decide)).trans hU2⟩,
    (h3 0).trans ((dats m 0 c).arrAt_in 0 rfl _), (h3 1).trans ((dats m 0 c).arrAt_in 1 rfl _)⟩

end Cert.QuantiserIdeal.Hand

end
-- ==== Proof.QValue.lean ====
/-
  The quantiser and its reference end at the same codes and the same scales.
-/
import proofs.«01_k».proof.Proof.QAt
import proofs.«01_k».proof.Proof.QLaunch
import proofs.«01_k».proof.Proof.Gen.ScalesIdeal.Value
import proofs.«01_k».proof.Defs

noncomputable section

namespace Cert.QuantiserIdeal.Hand

open Cert.QuantiserIdeal Cert.QuantiserIdeal.Gen Cert.Exponent
open Idealize.ShloMosaic Idealize.ShloMosaic.TcCoe Idealize.SL.Sem

variable (m : (ℓ : Loc nD τ sig) → Buf (Elt Ideal) ℓ) (c : Dev nD)

/-- The block index of either staged argument at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

theorem emb0 (t : Fin cfg0.N) (j : S16x64x1280.Idx) : ((cfg0.win 0).blk t).view.emb j = j := by
  obtain ⟨e0, e1, e2⟩ := idx_zero0 t
  funext a; apply Fin.ext
  match a with
  | ⟨0, _⟩ => show win0_0.index t (0 : Fin 3) * 16 + 1 * (j 0).val = (j 0).val; omega
  | ⟨1, _⟩ => show win0_0.index t (1 : Fin 3) * 64 + 1 * (j 1).val = (j 1).val; omega
  | ⟨2, _⟩ => show win0_0.index t (2 : Fin 3) * 1280 + 1 * (j 2).val = (j 2).val; omega
theorem emb1 (t : Fin cfg0.N) (j : S16x64x1.Idx) : ((cfg0.win 1).blk t).view.emb j = j := by
  obtain ⟨e0, e1, e2⟩ := idx_zero1 t
  funext a; apply Fin.ext
  match a with
  | ⟨0, _⟩ => show win0_1.index t (0 : Fin 3) * 16 + 1 * (j 0).val = (j 0).val; omega
  | ⟨1, _⟩ => show win0_1.index t (1 : Fin 3) * 64 + 1 * (j 1).val = (j 1).val; omega
  | ⟨2, _⟩ => show win0_1.index t (2 : Fin 3) * 1 + 1 * (j 2).val = (j 2).val; omega

/-- The staged arguments are the arguments. -/
theorem iblk0_eq : iblk m c 0 t0_0 = m ((c.tc : Thread nD τ).loc main_arg0) := by
  funext j; show m ((c.tc : Thread nD τ).loc main_arg0) (((cfg0.win 0).blk t0_0).view.emb j) = _; rw [emb0]
theorem iblk1_eq : iblk m c 1 t0_0 = m ((c.tc : Thread nD τ).loc main_arg1) := by
  funext j; show m ((c.tc : Thread nD τ).loc main_arg1) (((cfg0.win 1).blk t0_0).view.emb j) = _; rw [emb1]

/-- A row of the results among the 64 rows of the arguments. -/
abbrev row (n : Fin 63) : Fin 64 := ⟨n.val, by omega⟩

/-- The codes and the scales that both programs end with. -/
def codesArr (a0 : Vec Ideal S16x64x1280 .f32) (a1 : Vec Ideal S16x64x1 .f32) : Vec Ideal S16x63x1280 .fp8e4m3 :=
  fun y => codeOf (a1 (ix3 (y 0 : Fin 16) (row (y 1)) (0 : Fin 1))) (a0 (ix3 (y 0 : Fin 16) (row (y 1)) (y 2 : Fin 1280)))
def scalesArr (a1 : Vec Ideal S16x64x1 .f32) : Vec Ideal S16x63 .f32 :=
  fun y => scaleOf (ratioOf (a1 (ix3 (y 0 : Fin 16) (row (y 1)) (0 : Fin 1))))

variable (fV : Bf (F := Ideal) c stV) (fA : Bf (F := Ideal) c stA) (gC gD gE gG)
  (hV : stV.view.read (Elt Ideal) fV = iblk m c 0 t0_0) (hA : stA.view.read (Elt Ideal) fA = iblk m c 1 t0_0)

include hV hA in
theorem kernel_codes : (kernelRun (F := Ideal) c fV fA gC gD gE gG (V m c main_v0_0) (V m c main_v0_1)).1.1
    = codesArr (m ((c.tc : Thread nD τ).loc main_arg0)) (m ((c.tc : Thread nD τ).loc main_arg1)) := by
  rw [codes_result]
  funext y
  show codeOf (stA.view.read (Elt Ideal) fA _) (stV.view.read (Elt Ideal) fV _) = _
  rw [hA, hV, iblk0_eq, iblk1_eq]
  rfl
include hA in
theorem kernel_scales : (kernelRun (F := Ideal) c fV fA gC gD gE gG (V m c main_v0_0) (V m c main_v0_1)).1.2
    = scalesArr (m ((c.tc : Thread nD τ).loc main_arg1)) := by
  rw [scales_result]
  funext y
  show scaleOf (ratioOf (stA.view.read (Elt Ideal) fA _)) = _
  rw [hA, iblk1_eq]
  rfl

end Cert.QuantiserIdeal.Hand

namespace Cert.ScalesIdeal.Hand

open Cert.ScalesIdeal Cert.ScalesIdeal.Gen Cert.Exponent Cert.QuantiserIdeal.Hand
open Idealize.ShloMosaic Idealize.ShloMosaic.TcCoe

/-- A selection by either of two comparisons. -/
theorem select_or (p q : Prop) [Decidable p] [Decidable q] (a b : EReal) :
    Scalar.select (IntOp.ori (BitVec.ofBool (decide p)) (BitVec.ofBool (decide q))) a b = if p ∨ q then a else b := by
  by_cases hp : p <;> by_cases hq : q <;> simp [hp, hq, Scalar.select, IntOp.ori]

/-- The exponents that the reference tries. -/
theorem tried_int : ∀ x : Fin 254, (IntOp.subi (BitVec.ofNat 32 x.val) 126#32).toInt = (x.val : ℤ) - 126 := by decide +kernel
theorem tried (x : Fin 254) : (FloatOps.sitofp (F := Ideal) .f32 (IntOp.subi (BitVec.ofNat 32 x.val) 126#32) : EReal) = ((((x.val : ℤ) - 126 : ℤ) : ℝ) : EReal) := by
  rw [← tried_int x]
  rfl

theorem exponent_at (a : Vec Ideal S16x64x1 .f32) (p : Fin 16) (n : Fin 63) :
    k0_pay1 a (ix2 p n) = expOf (ratioOf (a (ix3 p (row n) 0))) := by
  pointwise [k0_pay1]
  rw [select_or, const_m126, const_bottom]
  simp only [tried, const_low]
  unfold expOf greatest
  simp only [← exp2_int]
  rfl

theorem scales_ref (a : Vec Ideal S16x64x1 .f32) (p : Fin 16) (n : Fin 63) :
    k0_pay2 a (ix2 p n) = scaleOf (ratioOf (a (ix3 p (row n) 0))) := by
  rw [← (exp2_expOf _).1, ← exponent_at]
  rfl

theorem codes_ref (v : Vec Ideal S16x64x1280 .f32) (a : Vec Ideal S16x64x1 .f32) (p : Fin 16) (n : Fin 63) (k : Fin 1280) :
    k0_pay3 v a (ix3 p n k) = codeOf (a (ix3 p (row n) 0)) (v (ix3 p (row n) k)) := by
  pointwise [k0_pay3]
  unfold codeOf
  rw [← (exp2_expOf _).2, ← exponent_at]
  rfl

theorem G2_eq (v : Vec Ideal S16x64x1280 .f32) (a : Vec Ideal S16x64x1 .f32) : Value.G2 (F := Ideal) v a = codesArr v a := by
  funext y
  obtain ⟨p, n, k, rfl⟩ : ∃ (p : Fin 16) (n : Fin 63) (k : Fin 1280), y = ix3 p n k := ⟨y 0, y 1, y 2, funext fun q => by fin_cases q <;> rfl⟩
  exact codes_ref v a p n k
theorem G3_eq (v : Vec Ideal S16x64x1280 .f32) (a : Vec Ideal S16x64x1 .f32) : Value.G3 (F := Ideal) v a = scalesArr a := by
  funext y
  obtain ⟨p, n, rfl⟩ : ∃ (p : Fin 16) (n : Fin 63), y = ix2 p n := ⟨y 0, y 1, funext fun q => by fin_cases q <;> rfl⟩
  exact scales_ref a p n

end Cert.ScalesIdeal.Hand

namespace Cert.Proof

open Idealize.ShloMosaic Idealize.ShloMosaic.TcCoe Idealize.SL.Sem

/-- Over the extended reals, the quantiser and its reference end with the same codes and the same scales. -/
theorem algebraic_quantiser : Cert.algebraic_QuantiserIdeal_ScalesIdeal := by
  intro m g m' g' _ hm
  refine ⟨fun c => Cert.QuantiserIdeal.Hand.codesArr (m ((c.tc : Thread Cert.QuantiserIdeal.nD Cert.QuantiserIdeal.τ).loc Cert.QuantiserIdeal.main_arg0))
      (m ((c.tc : Thread Cert.QuantiserIdeal.nD Cert.QuantiserIdeal.τ).loc Cert.QuantiserIdeal.main_arg1)),
    fun c => Cert.QuantiserIdeal.Hand.scalesArr (m ((c.tc : Thread Cert.QuantiserIdeal.nD Cert.QuantiserIdeal.τ).loc Cert.QuantiserIdeal.main_arg1)), ?_, ?_⟩
  · refine (θ_run _ _ _).mono (fun r h c => ?_) (Cert.QuantiserIdeal.Hand.run_all m g)
    obtain ⟨⟨fV, fA, gC, gD, gE, gG, hV, hA, hR1, hR2⟩, hk⟩ := h.1 c
    exact ⟨hR1.trans (Cert.QuantiserIdeal.Hand.kernel_codes m c fV fA gC gD gE gG hV hA),
      hR2.trans (Cert.QuantiserIdeal.Hand.kernel_scales m c fV fA gC gD gE gG hA), hk⟩
  · refine (θ_run _ _ _).mono (fun r h c => ?_) (Cert.ScalesIdeal.Value.run m' g')
    obtain ⟨hR1, hR2, hk⟩ := h c
    obtain ⟨h0, h1⟩ := hm c
    refine ⟨hR1.trans ?_, hR2.trans ?_, hk⟩
    · rw [Cert.ScalesIdeal.Hand.G2_eq]
      exact congr (congrArg Cert.QuantiserIdeal.Hand.codesArr h0) h1
    · rw [Cert.ScalesIdeal.Hand.G3_eq]
      exact congrArg Cert.QuantiserIdeal.Hand.scalesArr h1

end Cert.Proof

end
-- ==== Proof.lean ====
/-
  The claim, for each of the two slices: three frames, the preserved rewrites, and the value.
-/
import proofs.«01_k».proof.Defs
import proofs.«01_k».proof.Proof.LaunchBits
import proofs.«01_k».proof.Proof.LaunchIdeal
import proofs.«01_k».proof.Proof.Value
import proofs.«01_k».proof.Proof.QValue
import proofs.«01_k».proof.Proof.Gen.ReferenceIdeal.Frame
import proofs.«01_k».proof.Proof.Gen.Quantiser.Frame
import proofs.«01_k».proof.Proof.Gen.QuantiserIdeal.Frame
import proofs.«01_k».proof.Proof.Gen.ScalesIdeal.Frame
import proofs.«01_k».proof.Proof.Gen.ScalesIdeal.Value
import Idealize.ShloMosaic.Lib.Bf16Pair
import Idealize.ShloMosaic.Lib.Bf16PairInverse

namespace Cert.Proof

open Idealize.ShloMosaic

/-- The rewrites between the kernel and its idealization keep what the kernel computes. -/
theorem preserves : Cert.preserves_Kernel_KernelIdeal :=
  open Cert.KernelIdeal IdealRules.bf16_pair in
  ⟨bufferStatement S2x5x64x2x128 S2x5x64x1x128, packStatement S64x320, statement S1x1x64x2x128 S1x1x64x1x128,
    statement S1x1x7x2x128 S1x1x7x1x128, statement S1x14x128 S1x7x128⟩

theorem claim : Cert.Claim :=
  ⟨Cert.Kernel.Gen.facts, Cert.KernelIdeal.Gen.facts, Cert.ReferenceIdeal.Gen.facts,
    Cert.Quantiser.Gen.facts, Cert.QuantiserIdeal.Gen.facts, Cert.ScalesIdeal.Gen.facts,
    fun m g _ => Cert.Kernel.Hand.frame_all m g,
    fun m g _ => Cert.KernelIdeal.Hand.frame_all m g,
    fun m g _ => Cert.ReferenceIdeal.Gen.frame m g,
    fun m g _ => Cert.Quantiser.Gen.frame m g,
    fun m g _ => Cert.QuantiserIdeal.Gen.frame m g,
    fun m g _ => Cert.ScalesIdeal.Gen.frame m g,
    preserves, algebraic, trivial, algebraic_quantiser⟩

end Cert.Proof
